-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x128 : Shape := ⟨2, ![1024, 128]⟩
abbrev S7x128x1024 : Shape := ⟨3, ![7, 128, 1024]⟩
abbrev S7 : Shape := ⟨1, ![7]⟩
abbrev S_ : Shape := ⟨0, ![]⟩
abbrev S1 : Shape := ⟨1, ![1]⟩
abbrev S1x128x1024 : Shape := ⟨3, ![1, 128, 1024]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024x128, .f32⟩
  | .hbm, ⟨2, _⟩ => ⟨S1024x128, .f32⟩
  | .local _ .vmem, ⟨0, _⟩ => ⟨S128x1024, .f32⟩
  | .local _ .vmem, ⟨1, _⟩ => ⟨S1024x128, .f32⟩
  | .local _ .vmem, ⟨2, _⟩ => ⟨S1024x128, .f32⟩
  | .local _ .vmem, ⟨3, _⟩ => ⟨S128x1024, .bf16⟩
  | .local _ .vmem, ⟨4, _⟩ => ⟨S1024x128, .bf16⟩
  | .local _ .vmem, ⟨5, _⟩ => ⟨S7x128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v16 : BitVec 32 := Scalar.addi v2 c0_i32
  let c1_i32_7 : BitVec 32 := 1#32
  let v17 : BitVec 32 := Scalar.addi v16 c1_i32_7
  let c8_i32_8 : BitVec 32 := 8#32
  let c0_i32_9 : BitVec 32 := 0#32
  let v18 : BitVec 1 := Scalar.cmpi .eq c8_i32_8 c0_i32_9
  let c1_i32_10 : BitVec 32 := 1#32
  let v19 : BitVec 32 := Scalar.select v18 c1_i32_10 c8_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_15 : BitVec 32 := 1#32
  let v28 : BitVec 32 := Scalar.muli v27 c1_i32_15
  let v29 : BitVec 32 := Scalar.addi c0_i32_16 v28
  v29.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v30 : BitVec 32 := Scalar.addi v2 c1_i32_17
  let c1_i32_18 : BitVec 32 := 1#32
  let v31 : BitVec 32 := Scalar.addi v30 c1_i32_18
  let c8_i32_19 : BitVec 32 := 8#32
  let c0_i32_20 : BitVec 32 := 0#32
  let v32 : BitVec 1 := Scalar.cmpi .eq c8_i32_19 c0_i32_20
  let c1_i32_21 : BitVec 32 := 1#32
  let v33 : BitVec 32 := Scalar.select v32 c1_i32_21 c8_i32_19
  let v34 : BitVec 32 := Scalar.remsi v31 v33
  let c0_i32_23 : BitVec 32 := 0#32
  let v36 : BitVec 1 := Scalar.cmpi .slt v34 c0_i32_23
  let c0_i32_24 : BitVec 32 := 0#32
  let v37 : BitVec 1 := Scalar.cmpi .slt v33 c0_i32_24
  let v38 : BitVec 1 := Scalar.xori v36 v37
  let c0_i32_22 : BitVec 32 := 0#32
  let v35 : BitVec 1 := Scalar.cmpi .ne v34 c0_i32_22
  let v39 : BitVec 1 := Scalar.andi v38 v35
  let v40 : BitVec 32 := Scalar.addi v34 v33
  let v41 : BitVec 32 := Scalar.select v39 v40 v34
  let c1_i32_26 : BitVec 32 := 1#32
  let v42 : BitVec 32 := Scalar.muli v41 c1_i32_26
  let v43 : BitVec 32 := Scalar.addi c0_i32_27 v42
  v43.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v44 : BitVec 32 := Scalar.addi v2 c2_i32
  let c1_i32_28 : BitVec 32 := 1#32
  let v45 : BitVec 32 := Scalar.addi v44 c1_i32_28
  let c8_i32_29 : BitVec 32 := 8#32
  let c0_i32_30 : BitVec 32 := 0#32
  let v46 : BitVec 1 := Scalar.cmpi .eq c8_i32_29 c0_i32_30
  let c1_i32_31 : BitVec 32 := 1#32
  let v47 : BitVec 32 := Scalar.select v46 c1_i32_31 c8_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c1_i32_36 : BitVec 32 := 1#32
  let v56 : BitVec 32 := Scalar.muli v55 c1_i32_36
  let v57 : BitVec 32 := Scalar.addi c0_i32_37 v56
  v57.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v58 : BitVec 32 := Scalar.addi v2 c3_i32
  let c1_i32_38 : BitVec 32 := 1#32
  let v59 : BitVec 32 := Scalar.addi v58 c1_i32_38
  let c8_i32_39 : BitVec 32 := 8#32
  let c0_i32_40 : BitVec 32 := 0#32
  let v60 : BitVec 1 := Scalar.cmpi .eq c8_i32_39 c0_i32_40
  let c1_i32_41 : BitVec 32 := 1#32
  let v61 : BitVec 32 := Scalar.select v60 c1_i32_41 c8_i32_39
  let v62 : BitVec 32 := Scalar.remsi v59 v61
  let c0_i32_43 : BitVec 32 := 0#32
  let v64 : BitVec 1 := Scalar.cmpi .slt v62 c0_i32_43
  let c0_i32_44 : BitVec 32 := 0#32
  let v65 : BitVec 1 := Scalar.cmpi .slt v61 c0_i32_44
  let v66 : BitVec 1 := Scalar.xori v64 v65
  let c0_i32_42 : BitVec 32 := 0#32
  let v63 : BitVec 1 := Scalar.cmpi .ne v62 c0_i32_42
  let v67 : BitVec 1 := Scalar.andi v66 v63
  let v68 : BitVec 32 := Scalar.addi v62 v61
  let v69 : BitVec 32 := Scalar.select v67 v68 v62
  let c1_i32_46 : BitVec 32 := 1#32
  let v70 : BitVec 32 := Scalar.muli v69 c1_i32_46
  let v71 : BitVec 32 := Scalar.addi c0_i32_47 v70
  v71.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v72 : BitVec 32 := Scalar.addi v2 c4_i32
  let c1_i32_48 : BitVec 32 := 1#32
  let v73 : BitVec 32 := Scalar.addi v72 c1_i32_48
  let c8_i32_49 : BitVec 32 := 8#32
  let c0_i32_50 : BitVec 32 := 0#32
  let v74 : BitVec 1 := Scalar.cmpi .eq c8_i32_49 c0_i32_50
  let c1_i32_51 : BitVec 32 := 1#32
  let v75 : BitVec 32 := Scalar.select v74 c1_i32_51 c8_i32_49
  let v76 : BitVec 32 := Scalar.remsi v73 v75
  let c0_i32_53 : BitVec 32 := 0#32
  let v78 : BitVec 1 := Scalar.cmpi .slt v76 c0_i32_53
  let c0_i32_54 : BitVec 32 := 0#32
  let v79 : BitVec 1 := Scalar.cmpi .slt v75 c0_i32_54
  let v80 : BitVec 1 := Scalar.xori v78 v79
  let c0_i32_52 : BitVec 32 := 0#32
  let v77 : BitVec 1 := Scalar.cmpi .ne v76 c0_i32_52
  let v81 : BitVec 1 := Scalar.andi v80 v77
  let v82 : BitVec 32 := Scalar.addi v76 v75
  let v83 : BitVec 32 := Scalar.select v81 v82 v76
  let c1_i32_56 : BitVec 32 := 1#32
  let v84 : BitVec 32 := Scalar.muli v83 c1_i32_56
  let v85 : BitVec 32 := Scalar.addi c0_i32_57 v84
  v85.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v86 : BitVec 32 := Scalar.addi v2 c5_i32
  let c1_i32_58 : BitVec 32 := 1#32
  let v87 : BitVec 32 := Scalar.addi v86 c1_i32_58
  let c8_i32_59 : BitVec 32 := 8#32
  let c0_i32_60 : BitVec 32 := 0#32
  let v88 : BitVec 1 := Scalar.cmpi .eq c8_i32_59 c0_i32_60
  let c1_i32_61 : BitVec 32 := 1#32
  let v89 : BitVec 32 := Scalar.select v88 c1_i32_61 c8_i32_59
  let v90 : BitVec 32 := Scalar.remsi v87 v89
  let c0_i32_63 : BitVec 32 := 0#32
  let v92 : BitVec 1 := Scalar.cmpi .slt v90 c0_i32_63
  let c0_i32_64 : BitVec 32 := 0#32
  let v93 : BitVec 1 := Scalar.cmpi .slt v89 c0_i32_64
  let v94 : BitVec 1 := Scalar.xori v92 v93
  let c0_i32_62 : BitVec 32 := 0#32
  let v91 : BitVec 1 := Scalar.cmpi .ne v90 c0_i32_62
  let v95 : BitVec 1 := Scalar.andi v94 v91
  let v96 : BitVec 32 := Scalar.addi v90 v89
  let v97 : BitVec 32 := Scalar.select v95 v96 v90
  let c1_i32_66 : BitVec 32 := 1#32
  let v98 : BitVec 32 := Scalar.muli v97 c1_i32_66
  let v99 : BitVec 32 := Scalar.addi c0_i32_67 v98
  v99.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v100 : BitVec 32 := Scalar.addi v2 c6_i32
  let c1_i32_68 : BitVec 32 := 1#32
  let v101 : BitVec 32 := Scalar.addi v100 c1_i32_68
  let c8_i32_69 : BitVec 32 := 8#32
  let c0_i32_70 : BitVec 32 := 0#32
  let v102 : BitVec 1 := Scalar.cmpi .eq c8_i32_69 c0_i32_70
  let c1_i32_71 : BitVec 32 := 1#32
  let v103 : BitVec 32 := Scalar.select v102 c1_i32_71 c8_i32_69
  let v104 : BitVec 32 := Scalar.remsi v101 v103
  let c0_i32_73 : BitVec 32 := 0#32
  let v106 : BitVec 1 := Scalar.cmpi .slt v104 c0_i32_73
  let c0_i32_74 : BitVec 32 := 0#32
  let v107 : BitVec 1 := Scalar.cmpi .slt v103 c0_i32_74
  let v108 : BitVec 1 := Scalar.xori v106 v107
  let c0_i32_72 : BitVec 32 := 0#32
  let v105 : BitVec 1 := Scalar.cmpi .ne v104 c0_i32_72
  let v109 : BitVec 1 := Scalar.andi v108 v105
  let v110 : BitVec 32 := Scalar.addi v104 v103
  let v111 : BitVec 32 := Scalar.select v109 v110 v104
  let c1_i32_76 : BitVec 32 := 1#32
  let v112 : BitVec 32 := Scalar.muli v111 c1_i32_76
  let v113 : BitVec 32 := Scalar.addi c0_i32_77 v112
  v113.toNat
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let v114 : BitVec 32 := Scalar.addi v2 c0_i32_78
  let c1_i32_79 : BitVec 32 := 1#32
  let v115 : BitVec 32 := Scalar.addi v114 c1_i32_79
  let c8_i32_80 : BitVec 32 := 8#32
  let c0_i32_81 : BitVec 32 := 0#32
  let v116 : BitVec 1 := Scalar.cmpi .eq c8_i32_80 c0_i32_81
  let c1_i32_82 : BitVec 32 := 1#32
  let v117 : BitVec 32 := Scalar.select v116 c1_i32_82 c8_i32_80
  let v118 : BitVec 32 := Scalar.remsi v115 v117
  let c0_i32_84 : BitVec 32 := 0#32
  let v120 : BitVec 1 := Scalar.cmpi .slt v118 c0_i32_84
  let c0_i32_85 : BitVec 32 := 0#32
  let v121 : BitVec 1 := Scalar.cmpi .slt v117 c0_i32_85
  let v122 : BitVec 1 := Scalar.xori v120 v121
  let c0_i32_83 : BitVec 32 := 0#32
  let v119 : BitVec 1 := Scalar.cmpi .ne v118 c0_i32_83
  let v123 : BitVec 1 := Scalar.andi v122 v119
  let v124 : BitVec 32 := Scalar.addi v118 v117
  let v125 : BitVec 32 := Scalar.select v123 v124 v118
  let c1_i32_89 : BitVec 32 := 1#32
  let v126 : BitVec 32 := Scalar.muli v125 c1_i32_89
  let v127 : BitVec 32 := Scalar.addi c0_i32_90 v126
  v127.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v134 : BitVec 32 := Scalar.addi v2 c1_i32_93
  let c1_i32_94 : BitVec 32 := 1#32
  let v135 : BitVec 32 := Scalar.addi v134 c1_i32_94
  let c8_i32_95 : BitVec 32 := 8#32
  let c0_i32_96 : BitVec 32 := 0#32
  let v136 : BitVec 1 := Scalar.cmpi .eq c8_i32_95 c0_i32_96
  let c1_i32_97 : BitVec 32 := 1#32
  let v137 : BitVec 32 := Scalar.select v136 c1_i32_97 c8_i32_95
  let v138 : BitVec 32 := Scalar.remsi v135 v137
  let c0_i32_99 : BitVec 32 := 0#32
  let v140 : BitVec 1 := Scalar.cmpi .slt v138 c0_i32_99
  let c0_i32_100 : BitVec 32 := 0#32
  let v141 : BitVec 1 := Scalar.cmpi .slt v137 c0_i32_100
  let v142 : BitVec 1 := Scalar.xori v140 v141
  let c0_i32_98 : BitVec 32 := 0#32
  let v139 : BitVec 1 := Scalar.cmpi .ne v138 c0_i32_98
  let v143 : BitVec 1 := Scalar.andi v142 v139
  let v144 : BitVec 32 := Scalar.addi v138 v137
  let v145 : BitVec 32 := Scalar.select v143 v144 v138
  let c1_i32_104 : BitVec 32 := 1#32
  let v146 : BitVec 32 := Scalar.muli v145 c1_i32_104
  let v147 : BitVec 32 := Scalar.addi c0_i32_105 v146
  v147.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v154 : BitVec 32 := Scalar.addi v2 c2_i32_108
  let c1_i32_109 : BitVec 32 := 1#32
  let v155 : BitVec 32 := Scalar.addi v154 c1_i32_109
  let c8_i32_110 : BitVec 32 := 8#32
  let c0_i32_111 : BitVec 32 := 0#32
  let v156 : BitVec 1 := Scalar.cmpi .eq c8_i32_110 c0_i32_111
  let c1_i32_112 : BitVec 32 := 1#32
  let v157 : BitVec 32 := Scalar.select v156 c1_i32_112 c8_i32_110
  let v158 : BitVec 32 := Scalar.remsi v155 v157
  let c0_i32_114 : BitVec 32 := 0#32
  let v160 : BitVec 1 := Scalar.cmpi .slt v158 c0_i32_114
  let c0_i32_115 : BitVec 32 := 0#32
  let v161 : BitVec 1 := Scalar.cmpi .slt v157 c0_i32_115
  let v162 : BitVec 1 := Scalar.xori v160 v161
  let c0_i32_113 : BitVec 32 := 0#32
  let v159 : BitVec 1 := Scalar.cmpi .ne v158 c0_i32_113
  let v163 : BitVec 1 := Scalar.andi v162 v159
  let v164 : BitVec 32 := Scalar.addi v158 v157
  let v165 : BitVec 32 := Scalar.select v163 v164 v158
  let c1_i32_119 : BitVec 32 := 1#32
  let v166 : BitVec 32 := Scalar.muli v165 c1_i32_119
  let v167 : BitVec 32 := Scalar.addi c0_i32_120 v166
  v167.toNat
def k0_dev11 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v174 : BitVec 32 := Scalar.addi v2 c3_i32_123
  let c1_i32_124 : BitVec 32 := 1#32
  let v175 : BitVec 32 := Scalar.addi v174 c1_i32_124
  let c8_i32_125 : BitVec 32 := 8#32
  let c0_i32_126 : BitVec 32 := 0#32
  let v176 : BitVec 1 := Scalar.cmpi .eq c8_i32_125 c0_i32_126
  let c1_i32_127 : BitVec 32 := 1#32
  let v177 : BitVec 32 := Scalar.select v176 c1_i32_127 c8_i32_125
  let v178 : BitVec 32 := Scalar.remsi v175 v177
  let c0_i32_129 : BitVec 32 := 0#32
  let v180 : BitVec 1 := Scalar.cmpi .slt v178 c0_i32_129
  let c0_i32_130 : BitVec 32 := 0#32
  let v181 : BitVec 1 := Scalar.cmpi .slt v177 c0_i32_130
  let v182 : BitVec 1 := Scalar.xori v180 v181
  let c0_i32_128 : BitVec 32 := 0#32
  let v179 : BitVec 1 := Scalar.cmpi .ne v178 c0_i32_128
  let v183 : BitVec 1 := Scalar.andi v182 v179
  let v184 : BitVec 32 := Scalar.addi v178 v177
  let v185 : BitVec 32 := Scalar.select v183 v184 v178
  let c1_i32_134 : BitVec 32 := 1#32
  let v186 : BitVec 32 := Scalar.muli v185 c1_i32_134
  let v187 : BitVec 32 := Scalar.addi c0_i32_135 v186
  v187.toNat
def k0_dev12 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_138 : BitVec 32 := 4#32
  let v194 : BitVec 32 := Scalar.addi v2 c4_i32_138
  let c1_i32_139 : BitVec 32 := 1#32
  let v195 : BitVec 32 := Scalar.addi v194 c1_i32_139
  let c8_i32_140 : BitVec 32 := 8#32
  let c0_i32_141 : BitVec 32 := 0#32
  let v196 : BitVec 1 := Scalar.cmpi .eq c8_i32_140 c0_i32_141
  let c1_i32_142 : BitVec 32 := 1#32
  let v197 : BitVec 32 := Scalar.select v196 c1_i32_142 c8_i32_140
  let v198 : BitVec 32 := Scalar.remsi v195 v197
  let c0_i32_144 : BitVec 32 := 0#32
  let v200 : BitVec 1 := Scalar.cmpi .slt v198 c0_i32_144
  let c0_i32_145 : BitVec 32 := 0#32
  let v201 : BitVec 1 := Scalar.cmpi .slt v197 c0_i32_145
  let v202 : BitVec 1 := Scalar.xori v200 v201
  let c0_i32_143 : BitVec 32 := 0#32
  let v199 : BitVec 1 := Scalar.cmpi .ne v198 c0_i32_143
  let v203 : BitVec 1 := Scalar.andi v202 v199
  let v204 : BitVec 32 := Scalar.addi v198 v197
  let v205 : BitVec 32 := Scalar.select v203 v204 v198
  let c1_i32_149 : BitVec 32 := 1#32
  let v206 : BitVec 32 := Scalar.muli v205 c1_i32_149
  let v207 : BitVec 32 := Scalar.addi c0_i32_150 v206
  v207.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_153 : BitVec 32 := 5#32
  let v214 : BitVec 32 := Scalar.addi v2 c5_i32_153
  let c1_i32_154 : BitVec 32 := 1#32
  let v215 : BitVec 32 := Scalar.addi v214 c1_i32_154
  let c8_i32_155 : BitVec 32 := 8#32
  let c0_i32_156 : BitVec 32 := 0#32
  let v216 : BitVec 1 := Scalar.cmpi .eq c8_i32_155 c0_i32_156
  let c1_i32_157 : BitVec 32 := 1#32
  let v217 : BitVec 32 := Scalar.select v216 c1_i32_157 c8_i32_155
  let v218 : BitVec 32 := Scalar.remsi v215 v217
  let c0_i32_159 : BitVec 32 := 0#32
  let v220 : BitVec 1 := Scalar.cmpi .slt v218 c0_i32_159
  let c0_i32_160 : BitVec 32 := 0#32
  let v221 : BitVec 1 := Scalar.cmpi .slt v217 c0_i32_160
  let v222 : BitVec 1 := Scalar.xori v220 v221
  let c0_i32_158 : BitVec 32 := 0#32
  let v219 : BitVec 1 := Scalar.cmpi .ne v218 c0_i32_158
  let v223 : BitVec 1 := Scalar.andi v222 v219
  let v224 : BitVec 32 := Scalar.addi v218 v217
  let v225 : BitVec 32 := Scalar.select v223 v224 v218
  let c1_i32_164 : BitVec 32 := 1#32
  let v226 : BitVec 32 := Scalar.muli v225 c1_i32_164
  let v227 : BitVec 32 := Scalar.addi c0_i32_165 v226
  v227.toNat
def k0_dev14 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_168 : BitVec 32 := 6#32
  let v234 : BitVec 32 := Scalar.addi v2 c6_i32_168
  let c1_i32_169 : BitVec 32 := 1#32
  let v235 : BitVec 32 := Scalar.addi v234 c1_i32_169
  let c8_i32_170 : BitVec 32 := 8#32
  let c0_i32_171 : BitVec 32 := 0#32
  let v236 : BitVec 1 := Scalar.cmpi .eq c8_i32_170 c0_i32_171
  let c1_i32_172 : BitVec 32 := 1#32
  let v237 : BitVec 32 := Scalar.select v236 c1_i32_172 c8_i32_170
  let v238 : BitVec 32 := Scalar.remsi v235 v237
  let c0_i32_174 : BitVec 32 := 0#32
  let v240 : BitVec 1 := Scalar.cmpi .slt v238 c0_i32_174
  let c0_i32_175 : BitVec 32 := 0#32
  let v241 : BitVec 1 := Scalar.cmpi .slt v237 c0_i32_175
  let v242 : BitVec 1 := Scalar.xori v240 v241
  let c0_i32_173 : BitVec 32 := 0#32
  let v239 : BitVec 1 := Scalar.cmpi .ne v238 c0_i32_173
  let v243 : BitVec 1 := Scalar.andi v242 v239
  let v244 : BitVec 32 := Scalar.addi v238 v237
  let v245 : BitVec 32 := Scalar.select v243 v244 v238
  let c1_i32_179 : BitVec 32 := 1#32
  let v246 : BitVec 32 := Scalar.muli v245 c1_i32_179
  let v247 : BitVec 32 := Scalar.addi c0_i32_180 v246
  v247.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v259 : BitVec 32 := Scalar.muli v2 c128_i32
  let v260 : Index := Scalar.indexCast v259
  let c0_187 : Index := 0#32
  ![v260.toNat, 0]
def k0_off2 (d0 : Dev nD) (c0_i32_195 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi v2 c0_i32_195
  let c1_i32_196 : BitVec 32 := 1#32
  let v269 : BitVec 32 := Scalar.subi v268 c1_i32_196
  let c8_i32_197 : BitVec 32 := 8#32
  let c0_i32_198 : BitVec 32 := 0#32
  let v270 : BitVec 1 := Scalar.cmpi .eq c8_i32_197 c0_i32_198
  let c1_i32_199 : BitVec 32 := 1#32
  let v271 : BitVec 32 := Scalar.select v270 c1_i32_199 c8_i32_197
  let v272 : BitVec 32 := Scalar.remsi v269 v271
  let c0_i32_201 : BitVec 32 := 0#32
  let v274 : BitVec 1 := Scalar.cmpi .slt v272 c0_i32_201
  let c0_i32_202 : BitVec 32 := 0#32
  let v275 : BitVec 1 := Scalar.cmpi .slt v271 c0_i32_202
  let v276 : BitVec 1 := Scalar.xori v274 v275
  let c0_i32_200 : BitVec 32 := 0#32
  let v273 : BitVec 1 := Scalar.cmpi .ne v272 c0_i32_200
  let v277 : BitVec 1 := Scalar.andi v276 v273
  let v278 : BitVec 32 := Scalar.addi v272 v271
  let v279 : BitVec 32 := Scalar.select v277 v278 v272
  let c128_i32_209 : BitVec 32 := 128#32
  let v284 : BitVec 32 := Scalar.muli v279 c128_i32_209
  let v285 : Index := Scalar.indexCast v284
  let c0_210 : Index := 0#32
  ![v285.toNat, 0]
abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/-
The kernel's places: the eight devices and who sends to whom, the buffers and the slots of the landing buffer, the
semaphores and their cells. Nothing here depends on what the buffers hold.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Who sends to whom -/

set_option backward.proofsInPublic true in
/-- The device that `c` signals and sends to in its step `j`: the one `j + 1` places after `c` around the mesh. -/
def tgt (c : Dev nD) (j : Fin 7) : Dev nD := ⟨(c.val + j.val + 1) % 8, Nat.mod_lt _ (by decide)⟩

/-- Whom `c` sends to in step `j` sends to `c` in step `6 - j`: so the device that fills `c`'s slot `j` is `tgt c j.rev`. -/
theorem tgt_rev : ∀ (c : Dev nD) (j : Fin 7), tgt (tgt c j) j.rev = c := by decide +kernel
theorem tgt_rev' (c : Dev nD) (j : Fin 7) : tgt (tgt c j.rev) j = c := by
  have := tgt_rev c j.rev; rwa [Fin.rev_rev] at this
theorem tgt_ne : ∀ (c : Dev nD) (j : Fin 7), tgt c j ≠ c := by decide +kernel
theorem tgt_cover : ∀ c d : Dev nD, d ≠ c → ∃ j : Fin 7, d = tgt c j.rev := by decide +kernel

/-- Step `j`'s sending map is a permutation of the devices, whose inverse is the map of step `6 - j`. -/
def turn (j : Fin 7) : Dev nD ≃ Dev nD := ⟨fun c => tgt c j, fun c => tgt c j.rev, fun c => tgt_rev c j, fun c => tgt_rev' c j⟩

/-- The devices the kernel's signals and transfers name, as computed from its own device number. -/
theorem dev_signal (c : Dev nD) : k0_dev1 c = (tgt c 0).val ∧ k0_dev2 c = (tgt c 1).val ∧ k0_dev3 c = (tgt c 2).val
    ∧ k0_dev4 c = (tgt c 3).val ∧ k0_dev5 c = (tgt c 4).val ∧ k0_dev6 c = (tgt c 5).val ∧ k0_dev7 c = (tgt c 6).val := by
  revert c; decide +kernel
theorem dev_send (c : Dev nD) : k0_dev8 c = (tgt c 0).val ∧ k0_dev9 c = (tgt c 1).val ∧ k0_dev10 c = (tgt c 2).val
    ∧ k0_dev11 c = (tgt c 3).val ∧ k0_dev12 c = (tgt c 4).val ∧ k0_dev13 c = (tgt c 5).val ∧ k0_dev14 c = (tgt c 6).val := by
  revert c; decide +kernel

/-- The rows device `c` writes: its own block's first row, and for slot `j` that of the block of the device which fills it. -/
theorem row_own (c : Dev nD) : k0_off1 c = ![128 * c.val, 0] := k0_off1_eq c
theorem row_slot : ∀ (c : Dev nD) (j : Fin 7), k0_off2 c (BitVec.ofNat 32 j.val) = ![128 * (tgt c j.rev).val, 0] := by decide +kernel

/-! ## Buffers and slots -/

abbrev xM : Memref sig .tc .vmem S128x1024 .f32 := Memref.whole cc0_stg0_0
abbrev wM : Memref sig .tc .vmem S1024x128 .f32 := Memref.whole cc0_stg1_0
abbrev oM : Memref sig .tc .vmem S1024x128 .f32 := Memref.whole cc0_stg2_0
abbrev xbM : Memref sig .tc .vmem S128x1024 .bf16 := Memref.whole cc0_scratch0
abbrev wbM : Memref sig .tc .vmem S1024x128 .bf16 := Memref.whole cc0_scratch1
abbrev gM : Memref sig .tc .vmem S7x128x1024 .bf16 := Memref.whole cc0_scratch2

theorem slot_inb (j : Fin 7) : ∀ a, (![j.val, 0, 0] : Fin 3 → ℕ) a + S1x128x1024.size a ≤ S7x128x1024.size a := by
  revert j; decide
theorem lane_inb (j : Fin 7) : ∀ a, (![j.val] : Fin 1 → ℕ) a + S1.size a ≤ S7.size a := by
  revert j; decide

/-- Slot `j` of the landing buffer, as a rectangle of it; -/
abbrev slotR (j : Fin 7) : Rect S7x128x1024 := Rect.unit (s := S7x128x1024) ![j.val, 0, 0] S1x128x1024.size (slot_inb j)
/-- and as the memref a transfer fills. -/
abbrev slotM (j : Fin 7) : Memref sig .tc .vmem S128x1024 .bf16 :=
  (gM.slice (slotR j) (fun _ => rfl)).squeeze S128x1024 squeezes_S1x128x1024_S128x1024

/-- A slot's elements within the landing buffer: those whose leading index is the slot's number. -/
abbrev slotSet (j : Fin 7) : Finset S7x128x1024.Idx := (slotR j).set

theorem slotM_set (j : Fin 7) : (slotM j).view.set = slotSet j :=
  (View.set_reshape (v := (gM.slice (slotR j) (fun _ => rfl)).view) _).trans (View.set_slice_whole cc0_scratch2 (slotR j))

theorem mem_slot (j : Fin 7) (i : S7x128x1024.Idx) : i ∈ slotSet j ↔ (i 0).val = j.val := by
  rw [Rect.mem_set_unit]
  constructor
  · intro h
    have h0 : j.val ≤ (i 0).val ∧ (i 0).val < j.val + 1 := h 0
    omega
  · intro h a
    fin_cases a
    · show j.val ≤ (i 0).val ∧ (i 0).val < j.val + 1
      omega
    · exact ⟨Nat.zero_le _, by show (i 1).val < 0 + 128; have : (i 1).val < 128 := (i 1).isLt; omega⟩
    · exact ⟨Nat.zero_le _, by show (i 2).val < 0 + 1024; have : (i 2).val < 1024 := (i 2).isLt; omega⟩

theorem slot_disj (j k : Fin 7) (h : j ≠ k) : Disjoint (slotSet j) (slotSet k) := by
  rw [Finset.disjoint_left]
  intro i hi hk
  exact h (Fin.ext (((mem_slot j i).mp hi).symm.trans ((mem_slot k i).mp hk)))

theorem slot_cover : Finset.univ.biUnion slotSet = Finset.univ := by
  refine Finset.eq_univ_of_forall fun i => Finset.mem_biUnion.mpr ⟨⟨(i 0).val, (i 0).isLt⟩, Finset.mem_univ _, ?_⟩
  exact (mem_slot _ i).mpr rfl

/-! ## Semaphores -/

/-- The runtime's barrier semaphore; the semaphores that count a device's own transfer `j` as sent, and the transfer into its slot `j` as arrived. -/
abbrev barS : Sem sig := (SemArray.scalar (sig.barrier 0 rfl) : Sems sig S_).sem
abbrev sendS (j : Fin 7) : DmaSem sig :=
  ((cc0_scratch3.slice (Rect.unit (s := S7) ![j.val] S1.size (lane_inb j))).squeeze S_ squeezes_S1_S_).sem
abbrev recvS (j : Fin 7) : DmaSem sig :=
  ((cc0_scratch4.slice (Rect.unit (s := S7) ![j.val] S1.size (lane_inb j))).squeeze S_ squeezes_S1_S_).sem

theorem sendS_val : ∀ j : Fin 7, (sendS j).val = 3 + j.val := by decide +kernel
theorem recvS_val : ∀ j : Fin 7, (recvS j).val = 10 + j.val := by decide +kernel

/-- The kernel's own semaphores: the seven of sending, the seven of receiving. -/
abbrev Lane : Type := Fin 7 ⊕ Fin 7
abbrev osem : Lane → SemLoc sig := fun | .inl j => .dma (sendS j) | .inr j => .dma (recvS j)
/-- With the barrier: every semaphore the devices talk through. -/
abbrev Site : Type := Unit ⊕ Lane
abbrev csem : Site → SemLoc sig := fun | .inl _ => .reg barS | .inr k => osem k

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))
abbrev kcell (ck : Dev nD × Site) : GSem nD τ sig := ((ck.1 : Thread nD τ), csem ck.2)

theorem sendS_inj {j k : Fin 7} (h : sendS j = sendS k) : j = k := by
  have := congrArg Fin.val h; rw [sendS_val, sendS_val] at this; exact Fin.ext (by omega)
theorem recvS_inj {j k : Fin 7} (h : recvS j = recvS k) : j = k := by
  have := congrArg Fin.val h; rw [recvS_val, recvS_val] at this; exact Fin.ext (by omega)
theorem sendS_ne_recvS (j k : Fin 7) : sendS j ≠ recvS k := fun h => by
  have := congrArg Fin.val h; rw [sendS_val, recvS_val] at this; have := j.isLt; omega

theorem osem_inj : Function.Injective osem := by
  rintro (j | j) (k | k) h
  · exact congrArg _ (sendS_inj (SemLoc.dma.inj h))
  · exact absurd (SemLoc.dma.inj h) (sendS_ne_recvS j k)
  · exact absurd (SemLoc.dma.inj h).symm (sendS_ne_recvS k j)
  · exact congrArg _ (recvS_inj (SemLoc.dma.inj h))

theorem csem_inj : Function.Injective csem := by
  rintro (⟨⟩ | j) (⟨⟩ | k) h
  · rfl
  · rcases k with k | k <;> cases h
  · rcases j with j | j <;> cases h
  · exact congrArg _ (osem_inj h)

theorem kcell_inj : Function.Injective kcell := by
  rintro ⟨c, k⟩ ⟨d, l⟩ h
  have h1 : c = d := congrArg (fun g : GSem nD τ sig => g.1.1) h
  have h2 : k = l := csem_inj (congrArg Prod.snd h)
  rw [h1, h2]

/-- What one transfer of a block adds to a semaphore. -/
abbrev N : ℕ := (slotM 0).view.dmaCredit
theorem N_pos : 0 < N := View.dmaCredit_pos _ (by decide)
theorem slot_credit (j : Fin 7) : (slotM j).view.dmaCredit = N := rfl

end Cert.Gather

end
-- ==== Proof.Program.lean ====
/-
The kernel's body as four rounds of seven like steps: signal, send, receive and multiply, wait for what was sent. Each
step is written once, for a step number, as a function of the program that follows it.
-/
module

public import proofs.«01_k».proof.Proof.Cells

@[expose] public section

noncomputable section

namespace Cert.Gather

open Cert.KernelIdeal Cert.KernelIdeal.Gen

open Idealize.ShloMosaic
open Idealize.ShloMosaic.TcCoe
open Idealize.SL Idealize.SL.Sem

variable {F : FTy → Type} [FloatOps F]

variable (F) in
abbrev Body : Type 1 := Prog (TpuEff nD τ sig (Elt F) Λ₀ .tc) PUnit

theorem slot_words (j : Fin 7) : (slotR j).WholeWords (EltTy.packing .bf16) := by
  fin_cases j
  exacts [wordsbf16_S7x128x1024_S1x128x1024_0_0_0, wordsbf16_S7x128x1024_S1x128x1024_1_0_0, wordsbf16_S7x128x1024_S1x128x1024_2_0_0,
    wordsbf16_S7x128x1024_S1x128x1024_3_0_0, wordsbf16_S7x128x1024_S1x128x1024_4_0_0, wordsbf16_S7x128x1024_S1x128x1024_5_0_0,
    wordsbf16_S7x128x1024_S1x128x1024_6_0_0]

theorem slot_exact (j : Fin 7) : (slotM j).view.WordExact :=
  ((Memref.isWhole_whole cc0_scratch2).wordExact_slice rfl _ (slot_words j)).reshape _ _
theorem xb_exact : xbM.view.WordExact := (Memref.isWhole_whole cc0_scratch0).wordExact

abbrev rxs : Rect S128x1024 := Rect.unit (s := S128x1024) ![0, 0] S128x1024.size inb_S128x1024_S128x1024_0_0
abbrev rws : Rect S1024x128 := Rect.unit (s := S1024x128) ![0, 0] S1024x128.size inb_S1024x128_S1024x128_0_0

/-- Narrow both operands into the scratch buffers. -/
def narrow (k : Body F) : Body F :=
  .op (.load xM rxs.toLoadRect (View.loadsAt_vmem h_S128x1024)) fun x =>
  .op (.load xbM rxs.toLoadRect (View.loadsAt_vmem h_S128x1024)) fun _ =>
  .op (.store xbM rxs (k0_pay1 x) Finset.univ
    (View.stores_vmem h_S128x1024 ((Memref.isWhole_whole cc0_scratch0).storeExact_slice rfl _ packedbf16_S128x1024_S128x1024_0_0) (fun _ => rfl)) (.inl rfl)) fun _ =>
  .op (.load wM rws.toLoadRect (View.loadsAt_vmem h_S1024x128)) fun w =>
  .op (.load wbM rws.toLoadRect (View.loadsAt_vmem h_S1024x128)) fun _ =>
  .op (.store wbM rws (k0_pay2 w) Finset.univ
    (View.stores_vmem h_S1024x128 ((Memref.isWhole_whole cc0_scratch1).storeExact_slice rfl _ packedbf16_S1024x128_S1024x128_0_0) (fun _ => rfl)) (.inl rfl)) fun _ => k

/-- Signal device `d`; -/
def signal (d : Dev nD) (k : Body F) : Body F :=
  .op (.semSignal (d : Thread nD τ) barS (1#32).toInt) fun _ => k
/-- wait until all seven others have signalled; -/
def gate (k : Body F) : Body F := .op (.semWait barS (7#32).toInt) fun _ => k

/-- send the narrowed block of `x` into slot `j` of device `d`; -/
def send (d : Dev nD) (j : Fin 7) (k : Body F) : Body F :=
  .op (.enqueueDma xbM (.remote (Dev.tc d : Thread nD τ) (slotM j) (.dma (sendS j))) (.dma (recvS j)) xb_exact (slot_exact j)
    ⟨⟨rfl, Or.inl rfl⟩, trivial⟩) fun _ => k

/-- multiply the device's own blocks; -/
def own (c : Dev nD) (k : Body F) : Body F :=
  .op (.load xM rxs.toLoadRect (View.loadsAt_vmem h_S128x1024)) fun x =>
  .op (.load wM rws.toLoadRect (View.loadsAt_vmem h_S1024x128)) fun w =>
  .op (.load oM (Rect.unit (s := S1024x128) (k0_off1 c) S128x128.size (k0_off1_inb c)).toLoadRect (View.loadsAt_vmem h_S128x128)) fun _ =>
  .op (.store oM (Rect.unit (s := S1024x128) (k0_off1 c) S128x128.size (k0_off1_inb c)) (k0_pay3 x w) Finset.univ
    (View.stores_vmem_bits_univ h_S128x128 rfl) (.inl rfl)) fun _ => k

/-- wait for slot `j` and multiply what arrived in it; -/
def receive (c : Dev nD) (j : Fin 7) (k : Body F) : Body F :=
  .op (.waitDma2 (recvS j) xbM (slotM j) xb_exact (slot_exact j)) fun _ =>
  .op (.load gM (slotR j).toLoadRect (View.loadsAt_vmem h_S1x128x1024)) fun x =>
  .op (.load wbM rws.toLoadRect (View.loadsAt_vmem h_S1024x128)) fun w =>
  .op (.load oM (Rect.unit (s := S1024x128) (k0_off2 c (BitVec.ofNat 32 j.val)) S128x128.size (k0_off2_inb c j)).toLoadRect (View.loadsAt_vmem h_S128x128)) fun _ =>
  .op (.store oM (Rect.unit (s := S1024x128) (k0_off2 c (BitVec.ofNat 32 j.val)) S128x128.size (k0_off2_inb c j)) (k0_pay4 x w) Finset.univ
    (View.stores_vmem_bits_univ h_S128x128 rfl) (.inl rfl)) fun _ => k

/-- wait until transfer `j` has left. -/
def sent (j : Fin 7) (k : Body F) : Body F :=
  .op (.waitDma2 (sendS j) (slotM j) xbM (slot_exact j) xb_exact) fun _ => k

/-- The steps of a list, one after another, then `k`. -/
def each (f : Fin 7 → Body F → Body F) : List (Fin 7) → Body F → Body F
  | [], k => k
  | j :: l, k => f j (each f l k)

abbrev steps : List (Fin 7) := [0, 1, 2, 3, 4, 5, 6]

/-- The whole body on device `c`, which in step `j` signals `ds j` and sends to `rs j`. -/
def wholeTo (ds rs : Fin 7 → Dev nD) (c : Dev nD) : Body F :=
  narrow <| each (fun j => signal (ds j)) steps <| gate <| each (fun j => send (rs j) j) steps <| own c <|
    each (receive c) steps <| each sent steps <| .ret ⟨⟩
/-- Both are `tgt c j`. -/
abbrev whole (c : Dev nD) : Body F := wholeTo (tgt c) (tgt c) c

/-- The devices as the kernel computes them, step by step. -/
def signalled (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩]
def receivers (c : Dev nD) : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩]

theorem signalled_eq (c : Dev nD) : signalled c = tgt c := by
  obtain ⟨h0, h1, h2, h3, h4, h5, h6⟩ := dev_signal c
  funext j; fin_cases j
  exacts [Fin.ext h0, Fin.ext h1, Fin.ext h2, Fin.ext h3, Fin.ext h4, Fin.ext h5, Fin.ext h6]
theorem receivers_eq (c : Dev nD) : receivers c = tgt c := by
  obtain ⟨h0, h1, h2, h3, h4, h5, h6⟩ := dev_send c
  funext j; fin_cases j
  exacts [Fin.ext h0, Fin.ext h1, Fin.ext h2, Fin.ext h3, Fin.ext h4, Fin.ext h5, Fin.ext h6]

/-- The printed kernel, on its own buffers, is that body at its own device number. -/
theorem body_eq :
    (cc0_body (F := F) xM (Memref.isWhole_whole _) wM (Memref.isWhole_whole _) oM (Memref.isWhole_whole _)
      xbM (Memref.isWhole_whole _) wbM (Memref.isWhole_whole _) gM (Memref.isWhole_whole _) cc0_scratch3 cc0_scratch4)
      = .op .deviceId fun c => whole c := by
  rw [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel
  simp only [semSignalWord, Prog.lift, Prog.bind_op, Prog.bind_ret, Prog.pure_eq_ret]
  congr 1
  funext c
  simp only [k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel,
    semSignalWord, semWaitWord, Prog.lift, Prog.bind_op, Prog.bind_ret, Prog.pure_eq_ret]
  exact (rfl : _ = wholeTo (signalled c) (receivers c) c).trans (by rw [signalled_eq, receivers_eq])

end Cert.Gather

end
-- ==== Proof.Contents.lean ====
/-
What the buffers hold: the blocks each device starts with, their narrowed copies, the landing buffer once every block has
arrived, and the result. Each is a function of the blocks alone, and each load, store and transfer of the kernel is read
off as such a function.
-/
module

public import proofs.«01_k».proof.Proof.Program
public import Idealize.ShloMosaic.Lib.Pointwise.Index

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The contents -/

/-- Device `c`'s block of `x` (128 of its rows) and of `w` (128 of its columns), as staged for the kernel. -/
def xIn (c : Dev nD) : (cc0_stg0_0 : Ref sig .tc).ty.Contents (Elt F) :=
  (win0_0.blk (0 : Fin 1)).view.read (Elt F) (m ((c : Thread nD τ).loc main_arg0))
def wIn (c : Dev nD) : (cc0_stg1_0 : Ref sig .tc).ty.Contents (Elt F) :=
  (win0_1.blk (0 : Fin 1)).view.read (Elt F) (m ((c : Thread nD τ).loc main_arg1))

/-- Their narrowed copies. -/
def xNarrow (c : Dev nD) : (cc0_scratch0 : Ref sig .tc).ty.Contents (Elt F) := k0_pay1 (xIn m c)
def wNarrow (c : Dev nD) : (cc0_scratch1 : Ref sig .tc).ty.Contents (Elt F) := k0_pay2 (wIn m c)

/-- The landing buffer of `c` when all has arrived: slot `j` holds the narrowed block of the device that fills it. -/
def gathered (c : Dev nD) : (cc0_scratch2 : Ref sig .tc).ty.Contents (Elt F) :=
  fun i => xNarrow m (tgt c (Fin.rev (i 0 : Fin 7))) (ix2 (n0 := 128) (n1 := 1024) (i 1) (i 2))

/-- A narrowed block as a load of its slot reads it. -/
def slotVec (d : Dev nD) : Vec F S1x128x1024 .bf16 := fun y => xNarrow m d (ix2 (n0 := 128) (n1 := 1024) (y 1) (y 2))

/-- The block of 128 rows that device `c` computes from device `d`'s block of `x`: from its own block unnarrowed,
    from another's as it arrived. -/
def product (c d : Dev nD) : FVec F S128x128 .f32 :=
  if d = c then k0_pay3 (xIn m c) (wIn m c) else k0_pay4 (slotVec m d) (wNarrow m c)

set_option backward.proofsInPublic true in
/-- Which block of rows a row of the result lies in, and where within it. -/
def rowBlock (i : S1024x128.Idx) : Dev nD := ⟨(i 0).val / 128, by have : (i 0).val < 1024 := (i 0).isLt; show _ < 8; omega⟩
set_option backward.proofsInPublic true in
def rowWithin (i : S1024x128.Idx) : S128x128.Idx := ix2 (n0 := 128) (n1 := 128) ⟨(i 0).val % 128, Nat.mod_lt _ (by decide)⟩ (i 1)

/-- The kernel's result on device `c`: each block of rows is its product. -/
def outAt (c : Dev nD) : (cc0_stg2_0 : Ref sig .tc).ty.Contents (Elt F) :=
  fun i => product m c (rowBlock i) (rowWithin i)

/-! ## Loads -/

omit [FloatOps F] in
theorem zero_off : (![0, 0] : Fin 2 → Nat) = fun _ => 0 := funext fun a => by fin_cases a <;> rfl
omit [FloatOps F] in
theorem read_x (f : (cc0_stg0_0 : Ref sig .tc).ty.Contents (Elt F)) : xM.view.readAt (Elt F) rxs.toLoadRect f = f :=
  Memref.readAt_unit_zero (Elt F) cc0_stg0_0 zero_off _ f
omit [FloatOps F] in
theorem read_w (f : (cc0_stg1_0 : Ref sig .tc).ty.Contents (Elt F)) : wM.view.readAt (Elt F) rws.toLoadRect f = f :=
  Memref.readAt_unit_zero (Elt F) cc0_stg1_0 zero_off _ f
omit [FloatOps F] in
theorem read_wb (f : (cc0_scratch1 : Ref sig .tc).ty.Contents (Elt F)) : wbM.view.readAt (Elt F) rws.toLoadRect f = f :=
  Memref.readAt_unit_zero (Elt F) cc0_scratch1 zero_off _ f
omit [FloatOps F] in
theorem write_xb (f w : (cc0_scratch0 : Ref sig .tc).ty.Contents (Elt F)) :
    (xbM.access rxs : View sig .tc _ _ _).write (Elt F) f w Finset.univ = w :=
  Memref.write_access_unit_zero_univ (Elt F) cc0_scratch0 zero_off _ f w
omit [FloatOps F] in
theorem write_wb (f w : (cc0_scratch1 : Ref sig .tc).ty.Contents (Elt F)) :
    (wbM.access rws : View sig .tc _ _ _).write (Elt F) f w Finset.univ = w :=
  Memref.write_access_unit_zero_univ (Elt F) cc0_scratch1 zero_off _ f w

/-- A load of slot `j` reads the narrowed block of the device that fills it. -/
theorem read_slot (c : Dev nD) (j : Fin 7) :
    (gM.access (slotR j) : View sig .tc _ _ _).read (Elt F) (gathered m c) = slotVec m (tgt c j.rev) := by
  funext y
  show gathered m c ((slotR j).emb y) = _
  have h0 : ((slotR j).emb y 0 : Fin 7) = j := Fin.ext (by
    have : (y 0).val < 1 := (y 0).isLt
    show j.val + 1 * (y 0).val = j.val; omega)
  have h1 : (slotR j).emb y 1 = y 1 := Fin.ext (by show 0 + 1 * (y 1).val = _; omega)
  have h2 : (slotR j).emb y 2 = y 2 := Fin.ext (by show 0 + 1 * (y 2).val = _; omega)
  unfold gathered slotVec
  rw [h0, h1, h2]

/-! ## Transfers -/

/-- Where the transfer into slot `j` puts each element of a block. -/
theorem slot_emb (j : Fin 7) (z : S128x1024.Idx) : (slotM j).view.emb z = ix3 (n0 := 7) (n1 := 128) (n2 := 1024) j (z 0) (z 1) := by
  have h : Shape.reshapeEquiv (Shape.Squeezes.numel_eq squeezes_S1x128x1024_S128x1024) z = (Fin.cons ⟨0, Nat.one_pos⟩ z : S1x128x1024.Idx) :=
    Shape.reshapeEquiv_cons_one _ z
  show (slotR j).emb (Shape.reshapeEquiv (Shape.Squeezes.numel_eq squeezes_S1x128x1024_S128x1024) z) = _
  rw [h]
  funext a
  refine Fin.ext ?_
  rw [Rect.emb_apply]
  fin_cases a
  · show j.val + 1 * 0 = j.val; omega
  · show 0 + 1 * (z 0).val = (z 0).val; omega
  · show 0 + 1 * (z 1).val = (z 1).val; omega

/-- A slot that a transfer has filled from the device it belongs to holds what `gathered` says, whatever it held before. -/
theorem landed (c d : Dev nD) (j : Fin 7) (h : d = tgt c j.rev) (f : (cc0_scratch2 : Ref sig .tc).ty.Contents (Elt F)) :
    ∀ i ∈ (slotM j).view.set,
      (slotM j).view.write (Elt F) f (xbM.view.read (Elt F) (xNarrow m d)) Finset.univ i = gathered m c i := by
  subst h
  intro i hi
  obtain ⟨z, -, rfl⟩ := Finset.mem_map.mp hi
  rw [View.write_emb_of_mem _ _ (Finset.mem_univ _), slot_emb]
  show xNarrow m (tgt c j.rev) z = xNarrow m (tgt c j.rev) (ix2 (n0 := 128) (n1 := 1024) (z 0) (z 1))
  congr 1
  funext a
  fin_cases a <;> rfl

/-! ## Stores of the result -/

/-- `f` already is the result on the blocks of rows that `S` names. -/
def Filled (c : Dev nD) (S : Dev nD → Prop) (f : (cc0_stg2_0 : Ref sig .tc).ty.Contents (Elt F)) : Prop :=
  ∀ i, S (rowBlock i) → f i = outAt m c i

/-- Storing device `d`'s product at its rows fills that block of rows and keeps the others. -/
theorem filled_store (c d : Dev nD) (S : Dev nD → Prop) (f : (cc0_stg2_0 : Ref sig .tc).ty.Contents (Elt F)) (hf : Filled m c S f)
    (off : Fin 2 → ℕ) (hoff : off = ![128 * d.val, 0]) (inb : ∀ a, off a + S128x128.size a ≤ S1024x128.size a)
    (w : FVec F S128x128 .f32) (hw : w = product m c d) :
    Filled m c (fun e => e = d ∨ S e)
      ((oM.access (Rect.unit (s := S1024x128) off S128x128.size inb) : View sig .tc _ _ _).write (Elt F) f w Finset.univ) := by
  subst hoff hw
  intro i hi
  by_cases hd : rowBlock i = d
  · have he : (Rect.unit (s := S1024x128) ![128 * d.val, 0] S128x128.size inb).emb (rowWithin i) = i := by
      funext a
      refine Fin.ext ?_
      rw [Rect.emb_apply]
      subst hd
      fin_cases a
      · show 128 * ((i 0).val / 128) + 1 * ((i 0).val % 128) = (i 0).val; omega
      · show 0 + 1 * (i 1).val = (i 1).val; omega
    have := View.write_emb_of_mem (v := (oM.access (Rect.unit (s := S1024x128) ![128 * d.val, 0] S128x128.size inb) : View sig .tc _ _ _))
      (Val := Elt F) f (product m c d) (M := Finset.univ) (x := rowWithin i) (Finset.mem_univ _)
    have he' : ((oM.access (Rect.unit (s := S1024x128) ![128 * d.val, 0] S128x128.size inb) : View sig .tc _ _ _)).emb (rowWithin i) = i := he
    rw [he'] at this
    refine this.trans ?_
    show product m c d (rowWithin i) = outAt m c i
    unfold outAt; rw [hd]
  · rw [View.write_of_not_mem]
    · exact hf i (hi.resolve_left hd)
    · intro h
      have h' : i ∈ (Rect.unit (s := S1024x128) ![128 * d.val, 0] S128x128.size inb).set := by
        rw [View.setOn_univ] at h
        rwa [View.set_slice_whole] at h
      rw [Rect.mem_set_unit] at h'
      have h0 : 128 * d.val ≤ (i 0).val ∧ (i 0).val < 128 * d.val + 128 := h' 0
      exact hd (Fin.ext (by show (i 0).val / 128 = d.val; omega))

/-- Once every block of rows is filled, the result is complete. -/
theorem filled_all (c : Dev nD) (S : Dev nD → Prop) (hS : ∀ d, S d) (f : (cc0_stg2_0 : Ref sig .tc).ty.Contents (Elt F))
    (hf : Filled m c S f) : f = outAt m c := funext fun i => hf i (hS _)

end Cert.Gather

end
-- ==== Proof.Schedule.lean ====
/-
The agreement between the devices: who pays what into which semaphore cell and what comes with it, what a device still
owes after each step, and in which order cells may be waited on.
-/
module

public import proofs.«01_k».proof.Proof.Contents

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the devices' agreement with its duties named by step. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What passes between the devices -/

/-- Device `c`'s slot `j`, holding `f` there; -/
def slotPts (c : Dev nD) (j : Fin 7) (f : Buf (Elt F) ((slotM j).view.loc (c : Thread nD τ))) : sProp 𝕄 :=
  (slotM j).view.loc (c : Thread nD τ) ↦[(slotM j).view.set]{fullShare} f
/-- the share of its narrowed block that transfer `j` reads. -/
def lendPts (c : Dev nD) (j : Fin 7) : sProp 𝕄 :=
  xbM.view.loc (c : Thread nD τ) ↦[xbM.view.set]{Transfers.dealOf fullShare (Finset.univ : Finset (Fin 7)) j} xNarrow m c

/-- The signal for `c`'s step `j` lets it write the receiver's slot `j`; -/
def barPay (c : Dev nD) (j : Fin 7) : sProp 𝕄 := iprop(∃ f, slotPts (tgt c j) j f)
/-- the arrival of a block gives back the slot, filled; -/
def recvPay (c : Dev nD) (j : Fin 7) : sProp 𝕄 := slotPts c j (gathered m c)
/-- its departure gives back the share it read. -/
def sendPay (c : Dev nD) (j : Fin 7) : sProp 𝕄 := lendPts m c j

omit [FloatOps F] in
instance slotPts_storable (c : Dev nD) (j : Fin 7) (f) : BI.Storable (upEmb : UEmb _ 𝕄) (slotPts (F := F) c j f) := by unfold slotPts; infer_instance
omit [FloatOps F] in
instance barPay_storable (c : Dev nD) (j : Fin 7) : BI.Storable (upEmb : UEmb _ 𝕄) (barPay (F := F) c j) := by unfold barPay; infer_instance
instance recvPay_storable (c : Dev nD) (j : Fin 7) : BI.Storable (upEmb : UEmb _ 𝕄) (recvPay m c j) := by unfold recvPay; infer_instance
instance sendPay_storable (c : Dev nD) (j : Fin 7) : BI.Storable (upEmb : UEmb _ 𝕄) (sendPay m c j) := by unfold sendPay lendPts; infer_instance

/-- The step a transfer's semaphore belongs to. -/
def lane (s : DmaSem sig) : Fin 7 := ⟨(s.val - 3) % 7, Nat.mod_lt _ (by decide)⟩

theorem lane_send (j : Fin 7) : lane (sendS j) = j := Fin.ext (by
  show ((sendS j).val - 3) % 7 = j.val; rw [sendS_val]; have := j.isLt; omega)
theorem lane_recv (j : Fin 7) : lane (recvS j) = j := Fin.ext (by
  show ((recvS j).val - 3) % 7 = j.val; rw [recvS_val]; have := j.isLt; omega)

/-- One round. A barrier cell expects one unit for each step; a transfer's cell one block's credit. -/
def sched : Rounds.Schedule (GSem nD τ sig) (Fin 7) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma s => if 10 ≤ s.val then recvPay m g.1.1 (lane s) else sendPay m g.1.1 (lane s)
  amount_pos g _ _ _ := by
    rcases g with ⟨t, s | s⟩
    · exact Nat.one_pos
    · exact N_pos

instance sched_storable (g : GSem nD τ sig) (r : ℕ) (d : Fin 7) : BI.Storable (upEmb : UEmb _ 𝕄) ((sched m).payload g r d) := by
  rcases g with ⟨t, s | s⟩
  · show BI.Storable upEmb (barPay t.1 d); infer_instance
  · show BI.Storable upEmb (if 10 ≤ s.val then recvPay m t.1 (lane s) else sendPay m t.1 (lane s))
    split <;> infer_instance

section Sched
variable (c : Dev nD) (j : Fin 7)

theorem duties_bar : (sched m).duties (barCell c) 0 = Finset.univ := rfl
theorem duties_send : (sched m).duties (sendCell c j) 0 = {0} := rfl
theorem duties_recv : (sched m).duties (recvCell c j) 0 = {0} := rfl
theorem duties_later (g : GSem nD τ sig) : ∀ r, 1 ≤ r → (sched m).duties g r = ∅ := fun r hr => if_neg (by omega)

theorem payload_bar : (sched m).payload (barCell c) 0 j = barPay c j := rfl
theorem payload_send (d : Fin 7) : (sched m).payload (sendCell c j) 0 d = sendPay m c j := by
  show (if 10 ≤ (sendS j).val then recvPay m c (lane (sendS j)) else sendPay m c (lane (sendS j))) = _
  rw [if_neg (by rw [sendS_val]; have := j.isLt; omega), lane_send]
theorem payload_recv (d : Fin 7) : (sched m).payload (recvCell c j) 0 d = recvPay m c j := by
  show (if 10 ≤ (recvS j).val then recvPay m c (lane (recvS j)) else sendPay m c (lane (recvS j))) = _
  rw [if_pos (by rw [recvS_val]; omega), lane_recv]

theorem expect_bar : (sched m).expect (barCell c) 0 = 7 := rfl
theorem expect_send : (sched m).expect (sendCell c j) 0 = N := by
  unfold Schedule.expect Schedule.amountOf; rw [duties_send, Finset.sum_singleton]; rfl
theorem expect_recv : (sched m).expect (recvCell c j) 0 = N := by
  unfold Schedule.expect Schedule.amountOf; rw [duties_recv, Finset.sum_singleton]; rfl

theorem rest_bar : bigSep ((sched m).duties (barCell c) 0 \ ∅) (fun d => (sched m).payload (barCell c) 0 d) = bigSep Finset.univ (barPay (F := F) c) := by
  rw [Finset.sdiff_empty, duties_bar]; rfl
theorem rest_send : bigSep ((sched m).duties (sendCell c j) 0 \ ∅) (fun d => (sched m).payload (sendCell c j) 0 d) = sendPay m c j := by
  rw [Finset.sdiff_empty, duties_send, bigSep_singleton, payload_send]
theorem rest_recv : bigSep ((sched m).duties (recvCell c j) 0 \ ∅) (fun d => (sched m).payload (recvCell c j) 0 d) = recvPay m c j := by
  rw [Finset.sdiff_empty, duties_recv, bigSep_singleton, payload_recv]

end Sched

/-! ## What a device owes -/

/-- What it owes for the transfers of the steps in `l`, and for the signals of the steps in `l`. -/
def owedRecv (c : Dev nD) (l : List (Fin 7)) : CellTallies nD τ sig Unit := (l.map fun j => tallyAt (recvCell (tgt c j) j) () N).sum
def owedBar (c : Dev nD) (l : List (Fin 7)) : CellTallies nD τ sig Unit := (l.map fun j => tallyAt (barCell (tgt c j)) () 1).sum
/-- At the start it owes all of both. -/
def owed (c : Dev nD) : CellTallies nD τ sig Unit := owedRecv c steps + owedBar c steps

theorem owedRecv_cons (c : Dev nD) (j : Fin 7) (l : List (Fin 7)) :
    owedRecv c (j :: l) = owedRecv c l + tallyAt (recvCell (tgt c j) j) () N := by
  unfold owedRecv; rw [List.map_cons, List.sum_cons, add_comm]
theorem owedBar_cons (c : Dev nD) (j : Fin 7) (l : List (Fin 7)) :
    owedBar c (j :: l) = owedBar c l + tallyAt (barCell (tgt c j)) () 1 := by
  unfold owedBar; rw [List.map_cons, List.sum_cons, add_comm]

/-- The same as sums over the steps. -/
theorem owed_sum (c : Dev nD) : owed c
    = (∑ j : Fin 7, tallyAt (recvCell (tgt c j) j) () N) + ∑ j : Fin 7, (tallyAt (barCell (tgt c j)) () 1 : CellTallies nD τ sig Unit) := by
  rw [Fin.sum_univ_def, Fin.sum_univ_def]; rfl

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owedRecv_pos {c : Dev nD} {g : GSem nD τ sig} {u : Unit} : ∀ l, 0 < owedRecv c l g u → ∃ j, g = recvCell (tgt c j) j
  | [], h => absurd h (Nat.lt_irrefl 0)
  | j :: l, h => by
      rw [owedRecv_cons, Pi.add_apply, Finsupp.add_apply] at h
      rcases Nat.add_pos_iff_pos_or_pos.mp h with h | h
      · exact owedRecv_pos l h
      · exact ⟨j, tally_pos h⟩
theorem owedBar_pos {c : Dev nD} {g : GSem nD τ sig} {u : Unit} : ∀ l, 0 < owedBar c l g u → ∃ j, g = barCell (tgt c j)
  | [], h => absurd h (Nat.lt_irrefl 0)
  | j :: l, h => by
      rw [owedBar_cons, Pi.add_apply, Finsupp.add_apply] at h
      rcases Nat.add_pos_iff_pos_or_pos.mp h with h | h
      · exact owedBar_pos l h
      · exact ⟨j, tally_pos h⟩
theorem owed_pos {c : Dev nD} {g : GSem nD τ sig} {u : Unit} (h : 0 < owed c g u) :
    (∃ j, g = recvCell (tgt c j) j) ∨ ∃ j, g = barCell (tgt c j) := by
  unfold owed at h
  rw [Pi.add_apply, Finsupp.add_apply] at h
  exact (Nat.add_pos_iff_pos_or_pos.mp h).imp (owedRecv_pos _) (owedBar_pos _)

/-! ## The order of waiting -/

/-- The staging and sending cells come first, then the barrier cells, then the receiving cells. -/
def L (g : GSem nD τ sig) : Finset Unit := if g.1.2 = .tc then {()} else ∅
def lv (g : GSem nD τ sig) (_ : Unit) : ℕ := match g.2 with | .reg _ => 1 | .dma s => if 10 ≤ s.val then 2 else 0

theorem L_of_ne (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _
theorem lv_bar (c : Dev nD) : lv (barCell c) () = 1 := rfl
theorem lv_recv (c : Dev nD) (j : Fin 7) : lv (recvCell c j) () = 2 := if_pos (by rw [recvS_val]; omega)

omit [FloatOps F] in
/-- At the barrier a device owes transfers only, whose cells come later. -/
theorem mayWait_bar (c : Dev nD) : (levAts L lv : sProp 𝕄) ⊢ MayWait (c : Thread nD τ) (.reg barS) () (owedRecv c steps) :=
  Pipeline.mayWait_of_levAts (L_tc c _) fun g u hg => by
    obtain ⟨j, rfl⟩ := owedRecv_pos _ hg
    exact ⟨L_tc _ _, by rw [lv_recv]; exact Nat.lt_succ_self 1⟩

omit [FloatOps F] in
/-- A staging cell can be waited on whatever a device owes. -/
theorem mayWait_stage (c : Dev nD) (q : DmaSem sig) (hq : q.val < 10) (O : CellTallies nD τ sig Unit) (hO : O = owed c ∨ O = 0) :
    (levAts L lv : sProp 𝕄) ⊢ MayWait (c : Thread nD τ) (.dma q) () O := by
  have h0 : lv ((c : Thread nD τ), .dma q) () = 0 := if_neg (by omega)
  rcases hO with rfl | rfl
  · refine Pipeline.mayWait_of_levAts (L_tc c _) fun g u hg => ?_
    rw [h0]
    rcases owed_pos hg with ⟨j, rfl⟩ | ⟨j, rfl⟩
    · exact ⟨L_tc _ _, by rw [lv_recv]; exact Nat.succ_pos 1⟩
    · exact ⟨L_tc _ _, Nat.one_pos⟩
  · rw [MayWait_zero]; iintro -; iempintro

/-! ## What a device starts from -/

/-- Every cell is under the agreement, and open at its round. -/
def records (K : Dev nD × Site → ℕ) : sProp 𝕄 :=
  iprop((bigSep Finset.univ fun ck : Dev nD × Site => cellInv ER (sched m) (K ck) (kcell ck))
    ∗ bigSep Finset.univ fun ck : Dev nD × Site => reached ER (kcell ck) 0)

instance records_persistent (K : Dev nD × Site → ℕ) : BI.Persistent (records m K) := by unfold records; infer_instance

theorem inv_at (K : Dev nD × Site → ℕ) (ck : Dev nD × Site) : records m K ⊢ cellInv ER (sched m) (K ck) (kcell ck) :=
  sep_elim_left.trans (bigSep_elim (Finset.mem_univ ck))
theorem reached_at (K : Dev nD × Site → ℕ) (ck : Dev nD × Site) : records m K ⊢ reached ER (kcell ck) 0 :=
  sep_elim_right.trans (bigSep_elim (Finset.mem_univ ck))

/-- A device's positions at its own cells; -/
def posns (c : Dev nD) : sProp 𝕄 := bigSep Finset.univ fun k : Site => atPos ER (kcell (c, k)) 0 ∅ 0
/-- the tokens of the duties it pays: its signals, its transfers' departures and their arrivals; -/
def payToks (c : Dev nD) : sProp 𝕄 :=
  iprop((bigSep Finset.univ fun j : Fin 7 => dutyTok ER (barCell (tgt c j)) 0 j.rev)
    ∗ (bigSep Finset.univ fun j : Fin 7 => dutyTok ER (sendCell c j) 0 0)
    ∗ bigSep Finset.univ fun j : Fin 7 => dutyTok ER (recvCell (tgt c j) j) 0 0)
/-- the credits the others owe it. -/
def dues (c : Dev nD) : sProp 𝕄 :=
  iprop(cred (tallyAt (barCell c) () 7) ∗ bigSep Finset.univ fun j : Fin 7 => cred (tallyAt (recvCell c j) () N))

def ghost (c : Dev nD) : sProp 𝕄 := iprop(∃ K, records m K ∗ posns c ∗ payToks c)
def start (c : Dev nD) : sProp 𝕄 := iprop(ghost m c ∗ dues c ∗ levAts L lv)

end Cert.Gather

end
-- ==== Proof.Steps.lean ====
/-
One step of each kind, executed once for a device and a step number, and the lemma that runs seven of them in a row.
-/
module

public import proofs.«01_k».proof.Proof.Schedule

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` from here and then has `Q`. -/
abbrev runs (c : Dev nD) (p : Body F) (Q : PUnit → sProp 𝕄) : sProp 𝕄 :=
  wp frame (wpE (defs₀ (F := F)) 𝒱₀ (c : Thread nD τ) none) Set.univ p Q

/-! ## Seven steps in a row -/

/-- What each step of a list holds, side by side. -/
def stars (Φ : Fin 7 → sProp 𝕄) : List (Fin 7) → sProp 𝕄
  | [] => iprop(emp)
  | j :: l => iprop(Φ j ∗ stars Φ l)

omit [FloatOps F] in
theorem stars_steps (Φ : Fin 7 → sProp 𝕄) : bigSep Finset.univ Φ = stars Φ steps := by
  rw [bigSep_univ_eq_bigSepL steps (by decide) (by decide) Φ]
  simp only [steps, bigSepL_cons_cons, bigSepL_singleton, stars]
  rw [show (iprop(Φ 6 ∗ emp) : sProp 𝕄) = Φ 6 from sep_emp_eq _]
  rfl

/-- If one step turns its own holdings `A j` into `B j` and the shared state from `R (j :: l)` to `R l`, then the steps of
    a list turn all of `A` into all of `B` and use the shared state up. -/
theorem runs_each (c : Dev nD) (Q : PUnit → sProp 𝕄) (f : Fin 7 → Body F → Body F) (A B : Fin 7 → sProp 𝕄) (R : List (Fin 7) → sProp 𝕄)
    (step : ∀ j l k, iprop(A j ∗ R (j :: l)) ⊢ iprop(((B j ∗ R l) -∗ runs c k Q) -∗ runs c (f j k) Q)) (k : Body F) :
    ∀ l, iprop(stars A l ∗ R l) ⊢ iprop(((stars B l ∗ R []) -∗ runs c k Q) -∗ runs c (each f l k) Q)
  | [] => by
      iintro ⟨-, HR⟩ Hk
      iapply Hk
      isplitr; · unfold stars; iempintro
      iexact HR
  | j :: l => by
      unfold stars each
      iintro ⟨⟨HA, Hs⟩, HR⟩ Hk
      iapply (step j l (each f l k)) $$ [HA HR]
      · isplitl [HA] <;> iassumption
      iintro ⟨HB, HR⟩
      iapply (runs_each c Q f A B R step k l) $$ [Hs HR]
      · isplitl [Hs] <;> iassumption
      iintro ⟨HBs, HR⟩
      iapply Hk
      isplitl [HB HBs]
      · isplitl [HB] <;> iassumption
      iexact HR

/-! ## The steps -/

variable (K : Dev nD × Site → ℕ) (c : Dev nD)

/-- A signal hands over the slot that its receiver will fill. -/
theorem signal_step (Q : PUnit → sProp 𝕄) (W : Waits sig Unit) (j : Fin 7) (l : List (Fin 7)) (k : Body F) :
    iprop((dutyTok ER (barCell (tgt c j)) 0 j.rev ∗ ∃ f, slotPts c j.rev f)
        ∗ records m K ∗ owes (c : Thread nD τ) (owedRecv c steps + owedBar c (j :: l)) W)
      ⊢ iprop(((emp ∗ records m K ∗ owes (c : Thread nD τ) (owedRecv c steps + owedBar c l) W) -∗ runs c k Q) -∗ runs c (signal (tgt c j) k) Q) := by
  unfold signal
  iintro ⟨⟨Ht, Hs⟩, #HK, HO⟩ Hk
  iapply (Rounds.wp_signal 𝒱₀ ER (sched m) (c : Thread nD τ) none (dst := (tgt c j : Thread nD τ)) (κ := K (tgt c j, .inl ()))
      (r := 0) (d := j.rev) (k' := 1) (by rw [duties_bar]; exact Finset.mem_univ _) rfl ()
      (O₀ := owedRecv c steps + owedBar c (j :: l)) (owedRecv c steps + owedBar c l) (by rw [owedBar_cons, add_assoc])) $$ [Ht Hs HO]
  · isplitr; · iapply (inv_at m K (tgt c j, .inl ())); iexact HK
    isplitl [HO]; · iexact HO
    isplitl [Ht]; · iexact Ht
    isplitl [Hs]
    · rw [payload_bar]; unfold barPay; rw [tgt_rev]; iexact Hs
    · iapply (reached_at m K (tgt c j, .inl ())); iexact HK
  iintro HO
  iapply Hk
  isplitr; · iempintro
  isplitr; · iexact HK
  iexact HO

/-- The wait for all seven signals yields the slots that `c` will fill. -/
theorem gate_step (Q : PUnit → sProp 𝕄) (W : Waits sig Unit) (k : Body F) :
    iprop(records m K ∗ levAts L lv ∗ owes (c : Thread nD τ) (owedRecv c steps) W ∗ cred (tallyAt (barCell c) () 7) ∗ atPos ER (barCell c) 0 ∅ 0)
      ⊢ iprop(((owes (c : Thread nD τ) (owedRecv c steps) (insert (SemLoc.reg barS, ()) W) ∗ semVal (barCell c) 0 ∗ bigSep Finset.univ (barPay (F := F) c))
          -∗ runs c k Q) -∗ runs c (gate k) Q) := by
  unfold gate
  iintro ⟨#HK, #Hlev, HO, Hc, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedRecv c steps) (W := W) (R := 0) (m := 0) (T := ∅)
      (by rw [expect_bar]; rfl)) $$ [Hc HO Hat]
  · isplitr; · iapply (inv_at m K (c, .inl ())); iexact HK
    isplitl [Hc]; · iexact Hc
    isplitl [HO]; · iexact HO
    isplitr; · iapply (mayWait_bar c); iexact Hlev
    iexact Hat
  iintro ⟨HO, Hat, -, Hpay⟩
  imod (Rounds.cell_close ER (sched m) (Set.mem_univ (K (c, .inl ()))) (fun h => h) (R := 0 + 1) (duties_later m (barCell c))) $$ [Hat] with Hz
  · isplitr; · iapply (inv_at m K (c, .inl ())); iexact HK
    iexact Hat
  iapply Hk
  isplitl [HO]; · iexact HO
  isplitl [Hz]; · iexact Hz
  iapply (Entails.of_eq (rest_bar m c)); iexact Hpay

/-- A transfer takes the receiver's slot and a share of the narrowed block, and leaves a claim on the departure. -/
theorem send_step (Q : PUnit → sProp 𝕄) (W : Waits sig Unit) (j : Fin 7) (l : List (Fin 7)) (k : Body F) :
    iprop((barPay c j ∗ lendPts m c j ∗ dutyTok ER (sendCell c j) 0 0 ∗ dutyTok ER (recvCell (tgt c j) j) 0 0)
        ∗ records m K ∗ owes (c : Thread nD τ) (owedRecv c (j :: l)) W)
      ⊢ iprop(((cred (tallyAt (sendCell c j) () N) ∗ records m K ∗ owes (c : Thread nD τ) (owedRecv c l) W) -∗ runs c k Q)
          -∗ runs c (send (tgt c j) j k) Q) := by
  unfold send barPay slotPts lendPts
  iintro ⟨⟨⟨%f, Hs⟩, Hx, HtS, HtR⟩, #HK, HO⟩ Hk
  iapply (Rounds.wp_send_pointsTo 𝒱₀ ER (sched m) (c : Thread nD τ) none (κ₁ := K (c, .inr (.inl j))) (κ₂ := K (tgt c j, .inr (.inr j)))
      (r₁ := 0) (r₂ := 0) (d₁ := 0) (d₂ := 0) (fd := f) (fs := xNarrow m c) (q := Transfers.dealOf fullShare (Finset.univ : Finset (Fin 7)) j)
      (by rw [duties_send]; exact Finset.mem_singleton_self _) (by rw [duties_recv]; exact Finset.mem_singleton_self _)
      () () N rfl rfl rfl (O₀ := owedRecv c (j :: l)) (owedRecv c l) (by rw [owedRecv_cons]) (W := W)
      (by rw [payload_send]; exact BI.Entails.refl _)
      (by
        rw [payload_recv]; unfold recvPay slotPts
        exact Entails.of_eq (pointsTo_congr (landed m (tgt c j) c j (tgt_rev c j).symm f)))) $$ [Hs Hx HO HtS HtR]
  · isplitr; · iapply (inv_at m K (c, .inr (.inl j))); iexact HK
    isplitr; · iapply (inv_at m K (tgt c j, .inr (.inr j))); iexact HK
    isplitl [Hx]; · iexact Hx
    isplitl [Hs]; · iexact Hs
    isplitl [HO]; · iexact HO
    isplitl [HtS]; · iexact HtS
    isplitr; · iapply (reached_at m K (c, .inr (.inl j))); iexact HK
    isplitl [HtR]; · iexact HtR
    iapply (reached_at m K (tgt c j, .inr (.inr j))); iexact HK
  iintro ⟨Hc, HO⟩
  iapply Hk
  isplitl [Hc]; · iexact Hc
  isplitr; · iexact HK
  iexact HO

/-- The blocks of rows that are filled when the steps of `l` are still to be received. -/
def rowsBut (l : List (Fin 7)) : Dev nD → Prop := fun d => ∀ j ∈ l, d ≠ tgt c j.rev

/-- The result's buffer, correct so far. -/
def outPts (l : List (Fin 7)) : sProp 𝕄 := iprop(∃ f, ⌜Filled m c (rowsBut c l) f⌝ ∗ (oM.view.loc (c : Thread nD τ) ↦{fullShare} f))

/-- The narrowed block of `w`. -/
def wnPts : sProp 𝕄 := wbM.view.loc (c : Thread nD τ) ↦{fullShare} wNarrow m c

/-- What a device still owes while it only waits: nothing. -/
def idle : sProp 𝕄 := iprop(∃ W, owes (c : Thread nD τ) 0 W)

/-- A slot received, multiplied and stored: one more block of rows is right, and the slot is the device's again. -/
theorem receive_step (Q : PUnit → sProp 𝕄) (j : Fin 7) (l : List (Fin 7)) (k : Body F) :
    iprop((cred (tallyAt (recvCell c j) () N) ∗ atPos ER (recvCell c j) 0 ∅ 0) ∗ records m K ∗ idle c ∗ wnPts m c ∗ outPts m c (j :: l))
      ⊢ iprop((((recvPay m c j ∗ semVal (recvCell c j) 0) ∗ records m K ∗ idle c ∗ wnPts m c ∗ outPts m c l) -∗ runs c k Q)
          -∗ runs c (receive c j k) Q) := by
  unfold receive idle wnPts outPts
  iintro ⟨⟨Hc, Hat⟩, #HK, ⟨%W, HO⟩, Hw, ⟨%f, %hf, Hout⟩⟩ Hk
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, .inr (.inr j))); iexact HK
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, .inr (.inr j)))) (fun h => h) (R := 0 + 1) (duties_later m (recvCell c j))) $$ [Hat] with Hz
  · isplitr; · iapply (inv_at m K (c, .inr (.inr j))); iexact HK
    iexact Hat
  ihave Hs := (Entails.of_eq (rest_recv m c j)) $$ Hpay
  unfold recvPay slotPts
  rw [slotM_set]
  iapply (wp_load_rect 𝒱₀ (c : Thread nD τ) none Set.univ (m := gM) (r := slotR j)
    (by rw [View.set_slice_whole])) $$ Hs
  iintro Hs
  rw [read_slot]
  iapply (wp_load 𝒱₀ (c : Thread nD τ) none Set.univ (m := wbM) (Finset.subset_univ _)) $$ Hw
  iintro Hw
  rw [read_wb]
  iapply (wp_load 𝒱₀ (c : Thread nD τ) none Set.univ (m := oM) (Finset.subset_univ _)) $$ Hout
  iintro Hout
  iapply (wp_store 𝒱₀ (c : Thread nD τ) none Set.univ (m := oM)
    (r := Rect.unit (s := S1024x128) (k0_off2 c (BitVec.ofNat 32 j.val)) S128x128.size (k0_off2_inb c j))
    (Mk := Finset.univ) (Finset.subset_univ _)) $$ Hout
  iintro Hout
  iapply Hk
  isplitl [Hs Hz]
  · isplitl [Hs] <;> iassumption
  isplitr; · iexact HK
  isplitl [HO]; · iexists _; iexact HO
  isplitl [Hw]; · iexact Hw
  iexists _
  isplitr
  rotate_left
  · iexact Hout
  · ipureintro
    have hnew := filled_store m c (tgt c j.rev) _ f hf (k0_off2 c (BitVec.ofNat 32 j.val)) (row_slot c j) (k0_off2_inb c j)
      (k0_pay4 (slotVec m (tgt c j.rev)) (wNarrow m c)) (by unfold product; rw [if_neg (tgt_ne c _)])
    intro i hi
    refine hnew i ?_
    by_cases h : rowBlock i = tgt c j.rev
    · exact Or.inl h
    · exact Or.inr fun j' hj' => by
        rcases List.mem_cons.mp hj' with rfl | hj'
        · exact h
        · exact hi j' hj'

/-- The wait for a departure gives the lent share back. -/
theorem sent_step (Q : PUnit → sProp 𝕄) (j : Fin 7) (l : List (Fin 7)) (k : Body F) :
    iprop((cred (tallyAt (sendCell c j) () N) ∗ atPos ER (sendCell c j) 0 ∅ 0) ∗ records m K ∗ idle (F := F) c)
      ⊢ iprop((((lendPts m c j ∗ semVal (sendCell c j) 0) ∗ records m K ∗ idle (F := F) c) -∗ runs c k Q) -∗ runs c (sent j k) Q) := by
  unfold sent idle
  iintro ⟨⟨Hc, Hat⟩, #HK, ⟨%W, HO⟩⟩ Hk
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, .inr (.inl j))); iexact HK
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, .inr (.inl j)))) (fun h => h) (R := 0 + 1) (duties_later m (sendCell c j))) $$ [Hat] with Hz
  · isplitr; · iapply (inv_at m K (c, .inr (.inl j))); iexact HK
    iexact Hat
  ihave Hs := (Entails.of_eq (rest_send m c j)) $$ Hpay
  unfold sendPay
  iapply Hk
  isplitl [Hs Hz]
  · isplitl [Hs] <;> iassumption
  isplitr; · iexact HK
  iexists _; iexact HO

/-! ## What comes before and between -/

/-- Narrowing fills the two scratch buffers. -/
theorem narrow_step (Q : PUnit → sProp 𝕄) (k : Body F) (f : (cc0_scratch0 : Ref sig .tc).ty.Contents (Elt F)) (g : (cc0_scratch1 : Ref sig .tc).ty.Contents (Elt F)) :
    iprop((xM.view.loc (c : Thread nD τ) ↦{fullShare} xIn m c) ∗ (wM.view.loc (c : Thread nD τ) ↦{fullShare} wIn m c)
        ∗ (xbM.view.loc (c : Thread nD τ) ↦{fullShare} f) ∗ (wbM.view.loc (c : Thread nD τ) ↦{fullShare} g))
      ⊢ iprop((((xM.view.loc (c : Thread nD τ) ↦{fullShare} xIn m c) ∗ (wM.view.loc (c : Thread nD τ) ↦{fullShare} wIn m c)
          ∗ (xbM.view.loc (c : Thread nD τ) ↦{fullShare} xNarrow m c) ∗ wnPts m c) -∗ runs c k Q) -∗ runs c (narrow k) Q) := by
  unfold narrow wnPts
  iintro ⟨Hx, Hw, Hxb, Hwb⟩ Hk
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hxb; iintro Hxb
  iapply (wp_store 𝒱₀ (c : Thread nD τ) none Set.univ (m := xbM) (r := rxs) (Mk := Finset.univ) (Finset.subset_univ _)) $$ Hxb; iintro Hxb
  rw [write_xb]
  iapply (wp_load 𝒱₀ (c : Thread nD τ) none Set.univ (m := wM) (Finset.subset_univ _)) $$ Hw; iintro Hw
  rw [read_w]
  iapply (wp_load 𝒱₀ (c : Thread nD τ) none Set.univ (m := wbM) (Finset.subset_univ _)) $$ Hwb; iintro Hwb
  iapply (wp_store 𝒱₀ (c : Thread nD τ) none Set.univ (m := wbM) (r := rws) (Mk := Finset.univ) (Finset.subset_univ _)) $$ Hwb; iintro Hwb
  rw [write_wb]
  iapply Hk
  isplitl [Hx]; · iexact Hx
  isplitl [Hw]; · iexact Hw
  isplitl [Hxb]; · iexact Hxb
  iexact Hwb

/-- The product of the device's own blocks makes its own block of rows right. -/
theorem own_step (Q : PUnit → sProp 𝕄) (k : Body F) (f : (cc0_stg2_0 : Ref sig .tc).ty.Contents (Elt F)) :
    iprop((xM.view.loc (c : Thread nD τ) ↦{fullShare} xIn m c) ∗ (wM.view.loc (c : Thread nD τ) ↦{fullShare} wIn m c)
        ∗ (oM.view.loc (c : Thread nD τ) ↦{fullShare} f))
      ⊢ iprop((((xM.view.loc (c : Thread nD τ) ↦{fullShare} xIn m c) ∗ (wM.view.loc (c : Thread nD τ) ↦{fullShare} wIn m c)
          ∗ outPts m c steps) -∗ runs c k Q) -∗ runs c (own c k) Q) := by
  unfold own outPts
  iintro ⟨Hx, Hw, Hout⟩ Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x128) (k0_off1 c) S128x128.size (k0_off1_inb c))
    (Mk := Finset.univ) (Finset.subset_univ _)) $$ Hout; iintro Hout
  iapply Hk
  isplitl [Hx]; · iexact Hx
  isplitl [Hw]; · iexact Hw
  iexists _
  isplitr
  rotate_left
  · iexact Hout
  · ipureintro
    have hnew := filled_store m c c (fun _ => False) f (fun _ h => h.elim) (k0_off1 c) (row_own c) (k0_off1_inb c)
      (k0_pay3 (xIn m c) (wIn m c)) (by unfold product; rw [if_pos rfl])
    intro i hi
    refine hnew i (Or.inl ?_)
    by_contra h
    obtain ⟨j, hj⟩ := tgt_cover c _ h
    exact hi j (by fin_cases j <;> decide) hj

end Cert.Gather

end
-- ==== Proof.Body.lean ====
/-
The body, executed from what a device is given at the start to what it leaves at the end.
-/
module

public import proofs.«01_k».proof.Proof.Steps
public import proofs.«01_k».proof.Proof.Gen.KernelIdeal.Points

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers whole and in parts -/

omit [FloatOps F] in
/-- The landing buffer is its seven slots. -/
theorem slots_eq (c : Dev nD) (f : Buf (Elt F) ((c : Thread nD τ).loc cc0_scratch2)) :
    (((c : Thread nD τ).loc cc0_scratch2) ↦{fullShare} f : sProp 𝕄) = bigSep Finset.univ fun j : Fin 7 => slotPts c j f := by
  rw [Ring.pointsTo_blocks (fun j : Fin 7 => slotSet j) (fun j k h => slot_disj j k h) slot_cover]
  exact bigSep_congr fun j _ => by unfold slotPts; rw [slotM_set]

/-- The narrowed block is the seven shares of it that are lent to the transfers. -/
theorem lend_eq (c : Dev nD) :
    (((c : Thread nD τ).loc cc0_scratch0) ↦{fullShare} xNarrow m c : sProp 𝕄) = bigSep Finset.univ fun j : Fin 7 => lendPts m c j := by
  rw [Transfers.pointsTo_deal (Finset.univ : Finset (Fin 7)) Finset.univ_nonempty fullShare]
  exact bigSep_congr fun j _ => by unfold lendPts; rw [View.set_whole]

omit [FloatOps F] in
/-- Slots named by the steps that hand them over. -/
theorem slots_give (c : Dev nD) (f : Buf (Elt F) ((c : Thread nD τ).loc cc0_scratch2)) :
    (((c : Thread nD τ).loc cc0_scratch2) ↦{fullShare} f : sProp 𝕄) ⊢ bigSep Finset.univ fun j : Fin 7 => iprop(∃ f, slotPts c j.rev f) := by
  rw [slots_eq, bigSep_univ_equiv Fin.revPerm (fun j : Fin 7 => slotPts c j f)]
  refine bigSep_mono fun j _ => ?_
  show (slotPts c j.rev f : sProp 𝕄) ⊢ iprop(∃ f, slotPts c j.rev f)
  iintro H; iexists f; iexact H

/-! ## The pipeline's proof data -/

/-- What a device's buffers hold before and after its one grid point, what else it has there, and what it owes. -/
def Φ₀ (c : Dev nD) : sProp 𝕄 := iprop(start m c ∗ Pipeline.scopedRest (Ix := Unit) (Name := ℕ) (U := UU) (Lvl := ℕ) (Val := Elt F) cfg0.spec c)
def Φ₁ (c : Dev nD) : sProp 𝕄 :=
  iprop(semVal (barCell c) 0 ∗ ((bigSep Finset.univ fun j : Fin 7 => semVal (sendCell c j) 0) ∗ bigSep Finset.univ fun j : Fin 7 => semVal (recvCell c j) 0)
    ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outAt m c
  Φ t := match t with
    | ⟨0, _⟩ => Φ₀ m c
    | ⟨_ + 1, _⟩ => Φ₁ c
  q _ := fullShare
  owed t := match t with
    | ⟨0, _⟩ => owed c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, staged c cc0_stg0_0 ((dats m 0 c).before (0 : Fin 3) t0_0 d))
    ∗ (∃ d, staged c cc0_stg1_0 ((dats m 0 c).before (1 : Fin 3) t0_0 d))
    ∗ (∃ d, staged c cc0_stg2_0 ((dats m 0 c).before (2 : Fin 3) t0_0 d)))

def bodyPost (c : Dev nD) : sProp 𝕄 :=
  iprop(Φ₁ c ∗ (dats m 0 c).owesAt () t0_0.succ
    ∗ staged c cc0_stg0_0 (xIn m c) ∗ staged c cc0_stg1_0 (wIn m c) ∗ staged c cc0_stg2_0 (outAt m c))

/-! ## The run of the body -/

section Run
variable (K : Dev nD × Site → ℕ) (c : Dev nD)

/-- All signals: the landing buffer is given away, slot by slot. -/
theorem signals (Q : PUnit → sProp 𝕄) (W : Waits sig Unit) (k : Body F) (f : Buf (Elt F) ((c : Thread nD τ).loc cc0_scratch2)) :
    iprop(records m K ∗ owes (c : Thread nD τ) (owed c) W ∗ (bigSep Finset.univ fun j : Fin 7 => dutyTok ER (barCell (tgt c j)) 0 j.rev)
        ∗ (((c : Thread nD τ).loc cc0_scratch2) ↦{fullShare} f))
      ⊢ iprop((owes (c : Thread nD τ) (owedRecv c steps) W -∗ runs c k Q) -∗ runs c (each (fun j => signal (tgt c j)) steps k) Q) := by
  iintro ⟨#HK, HO, Ht, Hs⟩ Hk
  ihave Hs := (slots_give c f) $$ Hs
  iapply (runs_each c Q (fun j => signal (tgt c j)) (fun j => iprop(dutyTok ER (barCell (tgt c j)) 0 j.rev ∗ ∃ f, slotPts c j.rev f)) (fun _ => iprop(emp))
    (fun l => iprop(records m K ∗ owes (c : Thread nD τ) (owedRecv c steps + owedBar c l) W)) (fun j l k => signal_step m K c Q W j l k) k steps) $$ [HO Ht Hs]
  · isplitl [Ht Hs]
    · rw [← stars_steps, bigSep_sep']; isplitl [Ht] <;> iassumption
    · isplitr; · iexact HK
      iexact HO
  iintro ⟨-, -, HO⟩
  iapply Hk
  rw [show owedRecv c steps + owedBar c [] = owedRecv c steps from add_zero _]
  iexact HO

/-- All transfers. -/
theorem sends (Q : PUnit → sProp 𝕄) (W : Waits sig Unit) (k : Body F) :
    iprop(records m K ∗ owes (c : Thread nD τ) (owedRecv c steps) W ∗ bigSep Finset.univ (barPay (F := F) c)
        ∗ (((c : Thread nD τ).loc cc0_scratch0) ↦{fullShare} xNarrow m c)
        ∗ (bigSep Finset.univ fun j : Fin 7 => dutyTok ER (sendCell c j) 0 0) ∗ bigSep Finset.univ fun j : Fin 7 => dutyTok ER (recvCell (tgt c j) j) 0 0)
      ⊢ iprop((((bigSep Finset.univ fun j : Fin 7 => cred (tallyAt (sendCell c j) () N)) ∗ owes (c : Thread nD τ) 0 W) -∗ runs c k Q)
          -∗ runs c (each (fun j => send (tgt c j) j) steps k) Q) := by
  iintro ⟨#HK, HO, Hb, Hx, HtS, HtR⟩ Hk
  ihave Hx := (Entails.of_eq (lend_eq m c)) $$ Hx
  iapply (runs_each c Q (fun j => send (tgt c j) j)
    (fun j => iprop(barPay c j ∗ lendPts m c j ∗ dutyTok ER (sendCell c j) 0 0 ∗ dutyTok ER (recvCell (tgt c j) j) 0 0)) (fun j => cred (tallyAt (sendCell c j) () N))
    (fun l => iprop(records m K ∗ owes (c : Thread nD τ) (owedRecv c l) W)) (fun j l k => send_step m K c Q W j l k) k steps) $$ [HO Hb Hx HtS HtR]
  · isplitl [Hb Hx HtS HtR]
    · rw [← stars_steps, bigSep_sep', bigSep_sep', bigSep_sep']
      isplitl [Hb]; · iexact Hb
      isplitl [Hx]; · iexact Hx
      isplitl [HtS] <;> iassumption
    · isplitr; · iexact HK
      iexact HO
  iintro ⟨Hc, -, HO⟩
  iapply Hk
  isplitl [Hc]; · rw [stars_steps]; iexact Hc
  iexact HO

/-- All arrivals: the landing buffer is whole again, and the result complete. -/
theorem receives (Q : PUnit → sProp 𝕄) (k : Body F) :
    iprop(records m K ∗ idle c ∗ wnPts m c ∗ outPts m c steps
        ∗ (bigSep Finset.univ fun j : Fin 7 => cred (tallyAt (recvCell c j) () N)) ∗ bigSep Finset.univ fun j : Fin 7 => atPos ER (recvCell c j) 0 ∅ 0)
      ⊢ iprop(((idle c ∗ wnPts m c ∗ (((c : Thread nD τ).loc cc0_stg2_0) ↦{fullShare} outAt m c) ∗ (((c : Thread nD τ).loc cc0_scratch2) ↦{fullShare} gathered m c)
          ∗ bigSep Finset.univ fun j : Fin 7 => semVal (recvCell c j) 0) -∗ runs c k Q)
          -∗ runs c (each (receive c) steps k) Q) := by
  iintro ⟨#HK, HO, Hw, Hout, Hc, Hat⟩ Hk
  iapply (runs_each c Q (receive c)
    (fun j => iprop(cred (tallyAt (recvCell c j) () N) ∗ atPos ER (recvCell c j) 0 ∅ 0)) (fun j => iprop(recvPay m c j ∗ semVal (recvCell c j) 0))
    (fun l => iprop(records m K ∗ idle c ∗ wnPts m c ∗ outPts m c l)) (fun j l k => receive_step m K c Q j l k) k steps) $$ [HO Hw Hout Hc Hat]
  · isplitl [Hc Hat]
    · rw [← stars_steps, bigSep_sep']; isplitl [Hc] <;> iassumption
    · isplitr; · iexact HK
      isplitl [HO]; · iexact HO
      isplitl [Hw] <;> iassumption
  rw [← stars_steps, bigSep_sep']
  unfold outPts
  iintro ⟨⟨Hs, Hz⟩, -, HO, Hw, ⟨%f, %hf, Hout⟩⟩
  have hf' : f = outAt m c := filled_all m c _ (fun d j hj => absurd hj List.not_mem_nil) f hf
  subst hf'
  iapply Hk
  isplitl [HO]; · iexact HO
  isplitl [Hw]; · iexact Hw
  isplitl [Hout]; · iexact Hout
  isplitl [Hs]; · iapply (Entails.of_eq (slots_eq c (gathered m c)).symm); iexact Hs
  iexact Hz

/-- All departures: the narrowed block is whole again. -/
theorem departures (Q : PUnit → sProp 𝕄) (k : Body F) :
    iprop(records m K ∗ idle (F := F) c
        ∗ (bigSep Finset.univ fun j : Fin 7 => cred (tallyAt (sendCell c j) () N)) ∗ bigSep Finset.univ fun j : Fin 7 => atPos ER (sendCell c j) 0 ∅ 0)
      ⊢ iprop(((idle (F := F) c ∗ (((c : Thread nD τ).loc cc0_scratch0) ↦{fullShare} xNarrow m c) ∗ bigSep Finset.univ fun j : Fin 7 => semVal (sendCell c j) 0) -∗ runs c k Q)
          -∗ runs c (each sent steps k) Q) := by
  iintro ⟨#HK, HO, Hc, Hat⟩ Hk
  iapply (runs_each c Q sent
    (fun j => iprop(cred (tallyAt (sendCell c j) () N) ∗ atPos ER (sendCell c j) 0 ∅ 0)) (fun j => iprop(lendPts m c j ∗ semVal (sendCell c j) 0))
    (fun l => iprop(records m K ∗ idle (F := F) c)) (fun j l k => sent_step m K c Q j l k) k steps) $$ [HO Hc Hat]
  · isplitl [Hc Hat]
    · rw [← stars_steps, bigSep_sep']; isplitl [Hc] <;> iassumption
    · isplitr; · iexact HK
      iexact HO
  rw [← stars_steps, bigSep_sep']
  iintro ⟨⟨Hs, Hz⟩, -, HO⟩
  iapply Hk
  isplitl [HO]; · iexact HO
  isplitl [Hs]; · rw [lend_eq]; iexact Hs
  iexact Hz

end Run

omit [FloatOps F] in
theorem posns_eq (c : Dev nD) : (posns c : sProp 𝕄)
    = iprop(atPos ER (barCell c) 0 ∅ 0 ∗ (bigSep Finset.univ fun j : Fin 7 => atPos ER (sendCell c j) 0 ∅ 0)
        ∗ bigSep Finset.univ fun j : Fin 7 => atPos ER (recvCell c j) 0 ∅ 0) := by
  unfold posns
  rw [BI.bigSep_univ_sum (fun k : Site => (atPos ER (kcell (c, k)) 0 ∅ 0 : sProp 𝕄)),
    BI.bigSep_univ_sum (fun k : Lane => (atPos ER (kcell (c, .inr k)) 0 ∅ 0 : sProp 𝕄)), Finset.univ_unique, bigSep_singleton]
  rfl

/-- The body, from what the device is given to what it leaves. -/
theorem sound_body (c : Dev nD) (Q : PUnit → sProp 𝕄) :
    iprop(bodyPre m c ∗ (bodyPost m c -∗ Q ⟨⟩))
      ⊢ runs c (cc0_body (F := F) xM (Memref.isWhole_whole _) wM (Memref.isWhole_whole _) oM (Memref.isWhole_whole _)
          xbM (Memref.isWhole_whole _) wbM (Memref.isWhole_whole _) gM (Memref.isWhole_whole _) cc0_scratch3 cc0_scratch4) Q := by
  rw [body_eq]
  unfold runs
  rw [wp_deviceId]
  unfold bodyPre Φ₀ start ghost payToks dues whole wholeTo
  rw [posns_eq, scopedRest0_eq]
  iintro ⟨⟨⟨⟨⟨%K, #HK, ⟨HaB, HaS, HaR⟩, HtB, HtS, HtR⟩, ⟨HcB, HcR⟩, #Hlev⟩, ⟨%f0, Hxb⟩, ⟨%f1, Hwb⟩, ⟨%f2, Hg⟩⟩,
    Ho, ⟨%d0, %g0, %hg0, Hx⟩, ⟨%d1, %g1, %hg1, Hw⟩, ⟨%d2, %g2, %hg2, Hout⟩⟩, Hk⟩
  have hx : g0 = xIn m c := by rw [hg0]; unfold Dat.before; rw [if_pos (fetch0_0 t0_0)]; rfl
  have hw : g1 = wIn m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = owed c from rfl]
  iapply (narrow_step m c Q _ f0 f1) $$ [Hx Hw Hxb Hwb]
  · isplitl [Hx]; · iexact Hx
    isplitl [Hw]; · iexact Hw
    isplitl [Hxb] <;> iassumption
  iintro ⟨Hx, Hw, Hxb, Hwb⟩
  iapply (signals m K c Q W _ f2) $$ [HO HtB Hg]
  · isplitr; · iexact HK
    isplitl [HO]; · iexact HO
    isplitl [HtB] <;> iassumption
  iintro HO
  iapply (gate_step m K c Q W _) $$ [HO HcB HaB]
  · isplitr; · iexact HK
    isplitr; · iexact Hlev
    isplitl [HO]; · iexact HO
    isplitl [HcB] <;> iassumption
  iintro ⟨HO, HzB, Hb⟩
  iapply (sends m K c Q _ _) $$ [HO Hb Hxb HtS HtR]
  · isplitr; · iexact HK
    isplitl [HO]; · iexact HO
    isplitl [Hb]; · iexact Hb
    isplitl [Hxb]; · iexact Hxb
    isplitl [HtS] <;> iassumption
  iintro ⟨HcS, HO⟩
  iapply (own_step m c Q _ g2) $$ [Hx Hw Hout]
  · isplitl [Hx]; · iexact Hx
    isplitl [Hw] <;> iassumption
  iintro ⟨Hx, Hw, Hout⟩
  iapply (receives m K c Q _) $$ [HO Hwb Hout HcR HaR]
  · isplitr; · iexact HK
    isplitl [HO]; · unfold idle; iexists _; iexact HO
    isplitl [Hwb]; · iexact Hwb
    isplitl [Hout]; · iexact Hout
    isplitl [HcR] <;> iassumption
  iintro ⟨HO, Hwb, Hout, Hg, HzR⟩
  iapply (departures m K c Q _) $$ [HO HcS HaS]
  · isplitr; · iexact HK
    isplitl [HO]; · iexact HO
    isplitl [HcS] <;> iassumption
  iintro ⟨HO, Hxb, HzS⟩
  unfold runs
  rw [wp_ret]; imodintro
  iapply Hk
  unfold bodyPost Φ₁ Dat.owesAt Pipeline.owesWithin
  rw [scopedRest0_eq, show (dats m 0 c).owed t0_0.succ = 0 from rfl]
  isplitl [HzB HzS HzR Hxb Hwb Hg]
  · isplitl [HzB]; · iexact HzB
    isplitl [HzS HzR]
    · isplitl [HzS] <;> iassumption
    isplitl [Hxb]; · iexists _; iexact Hxb
    isplitl [Hwb]; · unfold wnPts; iexists _; iexact Hwb
    iexists _; iexact Hg
  isplitl [HO]
  · unfold idle
    icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 4000 in
/-- The pipeline's obligation for its one grid point. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ runs c (cc0_body (F := F) xM (Memref.isWhole_whole _) wM (Memref.isWhole_whole _) oM (Memref.isWhole_whole _)
          xbM (Memref.isWhole_whole _) wbM (Memref.isWhole_whole _) gM (Memref.isWhole_whole _) cc0_scratch3 cc0_scratch4) (fun _ => bodyPost m c)
  iintro H
  iapply (sound_body m c fun _ => bodyPost m c)
  isplitl [H]; · iexact H
  iintro H; iexact H

end Cert.Gather

end
-- ==== Proof.Launch.lean ====
/-
The launch: what the machine deals each device at the start, regrouped into what the body starts from; and the run of
the eight devices.
-/
module

public import proofs.«01_k».proof.Proof.Body
public import Idealize.ShloMosaic.Lib.Pipeline.CollectiveSegs
public import Idealize.ShloMosaic.Adequacy
public import Idealize.ShloMosaic.Init

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The agreement's cells and tokens -/

theorem ownSemFacts : Pipeline.OwnSemFacts cfg0.spec osem := by decide +kernel

theorem share_full (c : Dev nD) (w : Fin cfg0.W) : (dats m 0 c).share w = fullShare := by unfold Dat.share; split <;> rfl

def cells : Finset (GSem nD τ sig) := Finset.univ.map ⟨kcell, kcell_inj⟩

/-- A device's own duties: its barrier's seven, one of each transfer's departure, one of each arrival. -/
abbrev Duty : Type := Fin 7 ⊕ Lane
abbrev dutyAt : Duty → Site × Fin 7 := fun | .inl j => (.inl (), j) | .inr l => (.inr l, 0)
theorem dutyAt_inj : Function.Injective dutyAt := by
  rintro (j | l) (k | n) h
  · exact congrArg Sum.inl (congrArg Prod.snd h)
  · exact absurd (congrArg Prod.fst h) Sum.inl_ne_inr
  · exact absurd (congrArg Prod.fst h) Sum.inr_ne_inl
  · exact congrArg Sum.inr (Sum.inr_injective (congrArg Prod.fst h))
abbrev tokenAt (x : Dev nD × Duty) : GSem nD τ sig × ℕ × Fin 7 := (kcell (x.1, (dutyAt x.2).1), 0, (dutyAt x.2).2)
theorem tokenAt_inj : Function.Injective tokenAt := by
  rintro ⟨c, s⟩ ⟨d, t⟩ h
  have h1 := kcell_inj (congrArg Prod.fst h)
  have h2 : (dutyAt s).2 = (dutyAt t).2 := congrArg (fun y => y.2.2) h
  obtain rfl : c = d := congrArg Prod.fst h1
  obtain rfl : s = t := dutyAt_inj (Prod.ext (congrArg Prod.snd h1) h2)
  rfl
def tokens : Finset (GSem nD τ sig × ℕ × Fin 7) := Finset.univ.map ⟨tokenAt, tokenAt_inj⟩

/-- The ghost state the launch starts from. -/
def u₀ : UU := (initOf (Pipeline.cells cfgs cellOf_inj) (Pipeline.launchToks cfgs cellOf_inj), initOf cells tokens)

/-- The tokens of a device's own cells. -/
def ownToks (c : Dev nD) : sProp 𝕄 :=
  iprop((bigSep Finset.univ fun j : Fin 7 => dutyTok ER (barCell c) 0 j) ∗ (bigSep Finset.univ fun j : Fin 7 => dutyTok ER (sendCell c j) 0 0)
    ∗ bigSep Finset.univ fun j : Fin 7 => dutyTok ER (recvCell c j) 0 0)

/-- A device's part of that ghost state. -/
def dealt (c : Dev nD) : sProp 𝕄 :=
  iprop((bigSep Finset.univ fun k : Site => roundState ER (sched m) (kcell (c, k)) 0)
    ∗ posns c ∗ (bigSep Finset.univ fun k : Site => reached ER (kcell (c, k)) 0) ∗ ownToks c)

omit [FloatOps F] in
theorem over_cells (Φ : GSem nD τ sig → sProp 𝕄) :
    bigSep cells Φ = bigSep Finset.univ fun c : Dev nD => bigSep Finset.univ fun k : Site => Φ (kcell (c, k)) := by
  unfold cells; rw [bigSep_map, bigSep_univ_prod]; rfl

omit [FloatOps F] in
theorem over_tokens : bigSep tokens (fun x => (dutyTok ER x.1 x.2.1 x.2.2 : sProp 𝕄)) = bigSep Finset.univ fun c : Dev nD => ownToks c := by
  unfold tokens; rw [bigSep_map, bigSep_univ_prod]
  refine bigSep_congr fun c _ => ?_
  unfold ownToks
  rw [BI.bigSep_univ_sum (fun t : Duty => _), BI.bigSep_univ_sum (fun t : Lane => _)]
  rfl

theorem deal : BI.own (ER (initOf cells tokens)) ⊢ (|==> bigSep Finset.univ (dealt m) : sProp 𝕄) := by
  iintro H
  imod (Rounds.fund ER (sched m) cells tokens) $$ H with ⟨Hst, Hr, Hat, Htok⟩
  imodintro
  ihave Hst := (Entails.of_eq (over_cells fun g => roundState ER (sched m) g 0)) $$ Hst
  ihave Hat := (Entails.of_eq (over_cells fun g => (atPos ER g 0 ∅ 0 : sProp 𝕄))) $$ Hat
  ihave Hr := (Entails.of_eq (over_cells fun g => (reached ER g 0 : sProp 𝕄))) $$ Hr
  ihave Htok := (Entails.of_eq (over_tokens (F := F))) $$ Htok
  unfold dealt posns
  rw [bigSep_sep', bigSep_sep', bigSep_sep']
  isplitl [Hst]; · iexact Hst
  isplitl [Hat]; · iexact Hat
  isplitl [Hr] <;> iassumption

/-! ## The semaphores at zero -/

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0
  rw [BI.bigSep_univ_sum (fun k : Lane => _)]
  rfl
omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem all_sems (c : Dev nD) :
    (bigSep Finset.univ fun k : Site => (semVal (kcell (c, k)) 0 : sProp 𝕄))
      = iprop(unscopedSems0 c ∗ Pipeline.ownSems0 (Ix := Unit) (Name := ℕ) (U := UU) (Lvl := ℕ) (Val := Elt F) (τ := τ) osem c) := by
  rw [unscoped_eq, BI.bigSep_univ_sum (fun k : Site => (semVal (kcell (c, k)) 0 : sProp 𝕄)), Finset.univ_unique, bigSep_singleton]
  rfl

/-! ## Every cell put under the agreement -/

def opened (c : Dev nD) : sProp 𝕄 :=
  iprop((bigSep Finset.univ fun k : Site => iprop(∃ κ : ℕ, cellInv ER (sched m) κ (kcell (c, k))))
    ∗ (bigSep Finset.univ fun k : Site => reached ER (kcell (c, k)) 0) ∗ posns c ∗ ownToks c)

theorem open_cells (c : Dev nD) :
    iprop((bigSep Finset.univ fun k : Site => semVal (kcell (c, k)) 0) ∗ bigSep Finset.univ fun k : Site => roundState ER (sched m) (kcell (c, k)) 0)
      ⊢ (|={Set.univ}=> bigSep Finset.univ fun k : Site => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem open_device (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt opened
  iintro ⟨Hos, Hus, Hst, Hat, Hr, Htok⟩
  imod (open_cells m c) $$ [Hos Hus Hst] with Hinv
  · isplitl [Hos Hus]
    · rw [all_sems]; isplitl [Hus] <;> iassumption
    · iexact Hst
  imodintro
  isplitl [Hinv]; · iexact Hinv
  isplitl [Hr]; · iexact Hr
  isplitl [Hat] <;> iassumption

omit [FloatOps F] in
/-- A duty of the receiver's cell, held by the device that pays it: over all devices the same tokens. -/
theorem passed (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (tgt c j) j := by
  rw [Pipeline.bigSep_univ_comm, Pipeline.bigSep_univ_comm (fun (c : Dev nD) (j : Fin 7) => Φ (tgt c j) j)]
  exact bigSep_congr fun j _ => bigSep_univ_equiv (turn j) fun c => Φ c j

omit [FloatOps F] in
/-- The tokens passed to the devices that pay them. -/
theorem toks_passed : (bigSep Finset.univ fun c : Dev nD => (ownToks c : sProp 𝕄)) = bigSep Finset.univ fun c : Dev nD => payToks c := by
  unfold ownToks payToks
  rw [bigSep_sep', bigSep_sep', bigSep_sep', bigSep_sep',
    passed (fun c j => (dutyTok ER (recvCell c j) 0 0 : sProp 𝕄)),
    bigSep_congr (s := Finset.univ) (fun (c : Dev nD) _ => bigSep_univ_equiv Fin.revPerm (fun j : Fin 7 => (dutyTok ER (barCell c) 0 j : sProp 𝕄))),
    passed (fun c j => (dutyTok ER (barCell c) 0 (Fin.revPerm j) : sProp 𝕄))]
  rfl

theorem regroup : (bigSep Finset.univ fun c : Dev nD => opened m c) ⊢ bigSep Finset.univ (ghost m) := by
  unfold opened
  rw [bigSep_sep', bigSep_sep', bigSep_sep', ← bigSep_univ_prod (fun ck : Dev nD × Site => iprop(∃ κ : ℕ, cellInv ER (sched m) κ (kcell ck))),
    ← bigSep_univ_prod (fun ck : Dev nD × Site => (reached ER (kcell ck) 0 : sProp 𝕄)), toks_passed]
  iintro ⟨HI, #HR, Hat, Htok⟩
  ihave HK := (BI.bigSep_exists_pi Finset.univ (fun (ck : Dev nD × Site) (κ : ℕ) => (cellInv ER (sched m) κ (kcell ck) : sProp 𝕄))) $$ HI
  icases HK with ⟨%K, #HI⟩
  iapply (bigSep_with_persistent (R := records m K) (Φ := fun c => iprop(posns c ∗ payToks c)) fun c _ => by
    unfold ghost
    iintro ⟨#HK, Hat, Htok⟩
    iexists K
    isplitr; · iexact HK
    isplitl [Hat] <;> iassumption)
  isplitr
  · unfold records; isplitl; · iexact HI
    iexact HR
  · rw [bigSep_sep']; isplitl [Hat] <;> iassumption

/-- All devices at once: their semaphores at zero and their parts of the ghost state become what they start from. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => open_device m c).trans (bigSep_fupd _ _)).trans (BI.fupd_mono (regroup m))

/-! ## The credits -/

omit [FloatOps F] in
/-- Unit credits of one cell add up. -/
theorem units_join (g : GSem nD τ sig) (s : Finset (Fin 7)) :
    (bigSep s fun _ => (cred (tallyAt g () 1) : sProp 𝕄)) ⊢ cred (tallyAt g () s.card) := by
  induction s using Finset.induction_on with
  | empty => rw [BI.bigSep_empty, Finset.card_empty, tallyAt_zero, cred_zero]; exact .rfl
  | insert a s ha ih =>
    rw [bigSep_insert ha, Finset.card_insert_of_notMem ha, ← tallyAt_add]
    exact ((sep_mono_right ih).trans Laws.sep_comm.1).trans (cred_add _ _).2

omit [FloatOps F] in
/-- What the devices owe at the start is what each is due. -/
theorem creds (c : Dev nD) : (Pipeline.launchCred owed c : sProp 𝕄) ⊢ dues c := by
  rw [show owed = fun d => (∑ j : Fin 7, tallyAt (recvCell (tgt d j) j) () N) + ∑ j : Fin 7, (tallyAt (barCell (tgt d j)) () 1 : CellTallies nD τ sig Unit)
      from funext owed_sum,
    Pipeline.launchCred_add, Pipeline.launchCred_sum Finset.univ (fun (j : Fin 7) d => tallyAt (recvCell (tgt d j) j) () N),
    Pipeline.launchCred_sum Finset.univ (fun (j : Fin 7) d => tallyAt (barCell (tgt d j)) () 1)]
  unfold dues
  exact Laws.sep_comm.1.trans (Laws.sep_mono
    ((bigSep_mono fun (j : Fin 7) _ => Pipeline.launchCred_tallyAt (.reg barS) (fun d => tgt d j) (fun d => tgt d j.rev) (fun d => tgt_rev' d j) (fun d => tgt_rev d j) () 1 c).trans
      (units_join (barCell c) Finset.univ))
    (bigSep_mono fun (j : Fin 7) _ => Pipeline.launchCred_tallyAt (.dma (recvS j)) (fun d => tgt d j) (fun d => tgt d j.rev) (fun d => tgt_rev' d j) (fun d => tgt_rev d j) () N c))

/-! ## The ends of the region -/

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems_eq, unscoped_eq]
  exact .rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def final (c : Dev nD) (w : Fin cfg0.W) : Buf (Elt F) ((cfg0.win w).arr.view.loc (c : Thread nD τ)) := (dats m 0 c).arrAt w cfg0.N

set_option maxRecDepth 8000 in
/-- On the mesh of eight devices, for any float values, from any memory with zero counters: every weakly fair execution
    terminates without a fault, and at the end every window's array holds `final` and every semaphore counter is zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they were; -/
theorem final_x (c : Dev nD) : final m c (0 : Fin 3) = m ((c : Thread nD τ).loc main_arg0) := (dats m 0 c).arrAt_in (0 : Fin 3) rfl _
theorem final_w (c : Dev nD) : final m c (1 : Fin 3) = m ((c : Thread nD τ).loc main_arg1) := (dats m 0 c).arrAt_in (1 : Fin 3) rfl _

end Cert.Gather

end
-- ==== Proof.Rows.lean ====
/-
What one block of 128 rows holds over the extended reals: the products of a block of `x` with a block of columns of
`w`, whichever way the block of `x` came.
-/
module

public import proofs.«01_k».proof.Proof.Launch
public import Idealize.ShloMosaic.PureOps.Ideal.Laws
public import Idealize.ShloMosaic.Lib.MatmulPlain
public import Idealize.ShloMosaic.Lib.StackMember
public import Idealize.ShloMosaic.Lib.Pipeline.Value
public import Idealize.ShloMosaic.Lib.Pipeline.ValueKit.Geometry

@[expose] public section

noncomputable section

namespace Cert.Gather

open Cert.KernelIdeal Cert.KernelIdeal.Gen

open Idealize.ShloMosaic
open Idealize.ShloMosaic.TcCoe
open Idealize.SL Idealize.SL.Sem
open scoped BigOperators

section Arrays
variable {F : FTy → Type} [FloatOps F]
variable (m : (ℓ : Loc nD τ sig) → Buf (Elt F) ℓ)

/-- What is staged of `x` and of `w` is all that the device holds of them. -/
theorem xIn_eq (c : Dev nD) : xIn m c = m ((c : Thread nD τ).loc main_arg0) :=
  Memref.read_access_unit_zero (Elt F) main_arg0 (funext fun a => by fin_cases a <;> decide +kernel) _ _
theorem wIn_eq (c : Dev nD) : wIn m c = m ((c : Thread nD τ).loc main_arg1) :=
  Memref.read_access_unit_zero (Elt F) main_arg1 (funext fun a => by fin_cases a <;> decide +kernel) _ _

/-- The result's array ends at the kernel's result. -/
theorem final_out (c : Dev nD) : final m c (2 : Fin 3) = outAt m c :=
  (dats m 0 c).arrAt_eq_of_after_last (2 : Fin 3) t0_0 (by decide +kernel) _ fun j => rfl
end Arrays

/-! ## One block of rows -/

/-- A device's own block: row `r` of the block of `x` against column `s` of the block of `w`. -/
theorem own_apply (x : Vec Ideal S128x1024 .f32) (w : Vec Ideal S1024x128 .f32) (r s : Fin 128) :
    k0_pay3 (F := Ideal) x w (ix2 r s) = ∑ k : Fin 1024, x (ix2 r k) * w (ix2 k s) := by
  have h := Ideal.matmul_plain_apply (M := 128) (K := 1024) (N := 128) (φ₁ := .f32) (φ₂ := .f32) none x w (constant S128x128 .f32 0x00000000#32) r s
  unfold k0_pay3
  rw [shapeCast_self, shapeCast_self]
  refine Eq.trans ?_ (h.trans ?_)
  · exact congrArg _ (funext fun a => by fin_cases a <;> rfl)
  · rw [show (constant S128x128 .f32 0x00000000#32 : FVec Ideal S128x128 .f32) (ValueIdx.ix2 r s) = 0 from Ideal.ofBits_zero_f32, zero_add]
    refine Finset.sum_congr rfl fun k _ => ?_
    rw [show (ValueIdx.ix2 r k : S128x1024.Idx) = ix2 r k from funext fun a => by fin_cases a <;> rfl,
      show (ValueIdx.ix2 k s : S1024x128.Idx) = ix2 k s from funext fun a => by fin_cases a <;> rfl]

/-- A block that arrived: the same of the slot's rows. -/
theorem arrived_apply (v : Vec Ideal S1x128x1024 .bf16) (w : Vec Ideal S1024x128 .bf16) (r s : Fin 128) :
    k0_pay4 (F := Ideal) v w (ix2 r s) = ∑ k : Fin 1024, v (ix3 (0 : Fin 1) r k) * w (ix2 k s) := by
  have h := Ideal.matmul_plain_apply (M := 128) (K := 1024) (N := 128) (φ₁ := .bf16) (φ₂ := .bf16) none
    (shapeCast S128x1024 v shapeCasts_S1x128x1024_S128x1024) w (constant S128x128 .f32 0x00000000#32) r s
  unfold k0_pay4
  refine Eq.trans ?_ (h.trans ?_)
  · exact congrArg _ (funext fun a => by fin_cases a <;> rfl)
  · rw [show (constant S128x128 .f32 0x00000000#32 : FVec Ideal S128x128 .f32) (ValueIdx.ix2 r s) = 0 from Ideal.ofBits_zero_f32, zero_add]
    refine Finset.sum_congr rfl fun k _ => ?_
    rw [show (ValueIdx.ix2 k s : S1024x128.Idx) = ix2 k s from funext fun a => by fin_cases a <;> rfl,
      shapeCast_dropUnit_apply ![128, 1024] v shapeCasts_S1x128x1024_S128x1024 (ValueIdx.ix2 r k)]
    exact congrArg (fun i => v i * w (ix2 k s)) (funext fun a => by fin_cases a <;> rfl)

variable (m : (ℓ : Loc nD τ sig) → Buf (Elt Ideal) ℓ)

/-- A device's arguments, as matrices of extended reals. -/
abbrev xOf (c : Dev nD) : S128x1024.Idx → EReal := m ((c : Thread nD τ).loc main_arg0)
abbrev wOf (c : Dev nD) : S1024x128.Idx → EReal := m ((c : Thread nD τ).loc main_arg1)

/-- Whichever block it is, own or arrived: the sums of products of `d`'s rows of `x` and `c`'s columns of `w`. -/
theorem product_apply (c d : Dev nD) (r s : Fin 128) :
    product m c d (ix2 r s) = ∑ k : Fin 1024, xOf m d (ix2 r k) * wOf m c (ix2 k s) := by
  have hx := xIn_eq m d
  have hw := wIn_eq m c
  unfold product
  split
  · next h => subst h; rw [own_apply, hx, hw]
  · rw [arrived_apply]
    refine Finset.sum_congr rfl fun k _ => ?_
    have ex : slotVec m d (ix3 (0 : Fin 1) r k) = xOf m d (ix2 r k) :=
      (show slotVec m d (ix3 (0 : Fin 1) r k) = xIn m d (ix2 (n0 := 128) (n1 := 1024) r k) from by
        unfold slotVec xNarrow k0_pay1; rw [shapeCast_self, shapeCast_self]; rfl).trans (congrFun hx _)
    have ew : wNarrow m c (ix2 (n0 := 1024) (n1 := 128) k s) = wOf m c (ix2 k s) :=
      (show wNarrow m c (ix2 (n0 := 1024) (n1 := 128) k s) = wIn m c (ix2 (n0 := 1024) (n1 := 128) k s) from by
        unfold wNarrow k0_pay2; rw [shapeCast_self, shapeCast_self]; rfl).trans (congrFun hw _)
    exact congrArg₂ (fun a b : EReal => a * b) ex ew

end Cert.Gather

end
-- ==== Proof.Reference.lean ====
/-
What the reference computes over the extended reals: the product of the two whole matrices.
-/
module

public import proofs.«01_k».proof.Proof.Gen.ReferenceIdeal
public import proofs.«01_k».proof.Proof.Gen.ReferenceIdeal.Run
public import Idealize.ShloMosaic.PureOps.Ideal.Laws
public import Idealize.ShloMosaic.Lib.Pointwise.Index
public import Idealize.ShloMosaic.Lib.StackMember

@[expose] public section

noncomputable section

namespace Cert.Gather

open Cert.ReferenceIdeal Cert.ReferenceIdeal.Gen
open Idealize.ShloMosaic
open scoped BigOperators

/-- The reference's result from whole `x` and `w`. -/
abbrev whole_product (x w : S1024x1024.Idx → EReal) : S1024x1024.Idx → EReal :=
  Host.dotGeneral (F := Ideal) (φ₁ := .f32) (φ₂ := .f32) dot_S1024x1024_S1024x1024_S1024x1024_1_0_0_1_n_n none x w

/-- Its entry in row `i` and column `j`. -/
theorem whole_product_apply (x w : S1024x1024.Idx → EReal) (i j : Fin 1024) :
    whole_product x w (ix2 i j) = ∑ k : Fin 1024, x (ix2 i k) * w (ix2 k j) := by
  have h := StackMember.dotGeneral_plain_apply (m := 1024) (n := 1024) (k := 1024) (φ₁ := .f32) (φ₂ := .f32) none x w i j
  refine Eq.trans ?_ (h.trans ?_)
  · exact congrArg _ (funext fun a => by fin_cases a <;> rfl)
  · refine Finset.sum_congr rfl fun k _ => ?_
    rw [show (ValueIdx.ix2 i k : S1024x1024.Idx) = ix2 i k from funext fun a => by fin_cases a <;> rfl,
      show (ValueIdx.ix2 k j : S1024x1024.Idx) = ix2 k j from funext fun a => by fin_cases a <;> rfl]

end Cert.Gather

end
-- ==== Proof.Equation.lean ====
/-
The equation: from blocks of whole matrices, every device's result is its block of columns of their product.
-/
module

public import proofs.«01_k».proof.Proof.Rows
public import proofs.«01_k».proof.Proof.Reference
public import Idealize.ShloMosaic.Lib.Layout

@[expose] public section

noncomputable section

namespace Cert.Gather

open Cert.KernelIdeal Cert.KernelIdeal.Gen

open Idealize.ShloMosaic
open Idealize.ShloMosaic.TcCoe
open Idealize.SL Idealize.SL.Sem
open scoped BigOperators

/-- The whole matrices' shape. -/
abbrev Square : Shape := ⟨2, ![1024, 1024]⟩

/-- Row `r` of block `r / 128` of the rows, at `r % 128` within it, is row `r` of the whole. -/
theorem row_of_block (X : Square.Idx → EReal) (i : S1024x128.Idx) (k : Fin 1024) :
    Layout.block ⟨2, ![128, 1024]⟩ Square 0 8 (rowBlock i) X (by decide) (ix2 (n0 := 128) (n1 := 1024) (rowWithin i 0) k) = X (ix2 (n0 := 1024) (n1 := 1024) (i 0) k) := by
  rw [Layout.block_apply]
  refine congrArg X (funext fun a => Fin.ext ?_)
  match a with
  | ⟨0, _⟩ =>
    show (i 0).val / 128 * 128 + (i 0).val % 128 = (i 0).val
    omega
  | ⟨1, _⟩ => rfl

/-- Column `s` of block `c` of the columns is the column of the whole that `c`'s result has there. -/
theorem col_of_block (W : Square.Idx → EReal) (c : Dev nD) (k : Fin 1024) (s : Fin 128) (j : Fin 1024) (hj : j.val = c.val * 128 + s.val) :
    Layout.block ⟨2, ![1024, 128]⟩ Square 1 8 c W (by decide) (ix2 (n0 := 1024) (n1 := 128) k s) = W (ix2 (n0 := 1024) (n1 := 1024) k j) := by
  rw [Layout.block_apply]
  refine congrArg W (funext fun a => Fin.ext ?_)
  match a with
  | ⟨0, _⟩ => rfl
  | ⟨1, _⟩ => exact hj.symm

/-- If each device holds its block of rows of `X` and its block of columns of `W`, the kernel's result on device `c` is
    block `c` of the columns of the reference's `X W`. -/
theorem result_eq (m : (ℓ : Loc nD τ sig) → Buf (Elt Ideal) ℓ) (X W : Square.Idx → EReal)
    (hX : ∀ c : Dev nD, xOf m c = Layout.block ⟨2, ![128, 1024]⟩ Square 0 8 c X (by decide))
    (hW : ∀ c : Dev nD, wOf m c = Layout.block ⟨2, ![1024, 128]⟩ Square 1 8 c W (by decide)) (c : Dev nD) :
    outAt m c = Layout.block ⟨2, ![1024, 128]⟩ Square 1 8 c (whole_product X W) (by decide) := by
  funext i
  have hlt : c.val * 128 + (i 1).val < 1024 := by
    have h1 : c.val < 8 := c.isLt
    have h2 : (i 1).val < 128 := (i 1).isLt
    omega
  have hR : Layout.block ⟨2, ![1024, 128]⟩ Square 1 8 c (whole_product X W) (by decide) i
      = whole_product X W (ix2 (n0 := 1024) (n1 := 1024) (i 0) ⟨c.val * 128 + (i 1).val, hlt⟩) := by
    rw [Layout.block_apply]
    refine congrArg (whole_product X W) (funext fun a => Fin.ext ?_)
    match a with
    | ⟨0, _⟩ => rfl
    | ⟨1, _⟩ => rfl
  have hL : outAt m c i = ∑ k : Fin 1024, xOf m (rowBlock i) (ix2 (rowWithin i 0) k) * wOf m c (ix2 k (i 1)) :=
    product_apply m c (rowBlock i) (rowWithin i 0) (i 1)
  have hS : (∑ k : Fin 1024, xOf m (rowBlock i) (ix2 (rowWithin i 0) k) * wOf m c (ix2 k (i 1)) : EReal)
      = ∑ k : Fin 1024, X (ix2 (n0 := 1024) (n1 := 1024) (i 0) k) * W (ix2 (n0 := 1024) (n1 := 1024) k ⟨c.val * 128 + (i 1).val, hlt⟩) :=
    Finset.sum_congr rfl fun k _ => congrArg₂ (fun a b : EReal => a * b)
      ((congrFun (hX (rowBlock i)) _).trans (row_of_block X i k))
      ((congrFun (hW c) _).trans (col_of_block W c k (i 1) ⟨c.val * 128 + (i 1).val, hlt⟩ rfl))
  exact hL.trans (hS.trans (hR.trans (whole_product_apply X W (i 0) ⟨c.val * 128 + (i 1).val, hlt⟩)).symm)

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Rows
public import proofs.«01_k».proof.Proof.Reference
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the program read over the extended reals have one text: the same bodies, -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) (funext fun l => ?_)
  match l with
  | 0 => exact funext fun ⟨t, s⟩ => rfl

/-- and so the same table of bodies and pipelines. -/
theorem tables_eq : Cert.Kernel.defs (F := Bits) = Cert.KernelIdeal.defs (F := Bits) :=
  congrArg (Pipeline.defs (Cert.Kernel.pcfgs (F := Bits))) bodies_eq

/-- Over whichever numbers: the program runs to its end on every device, keeps its two arguments and leaves every
    semaphore at zero. -/
theorem runs_and_keeps {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run _ _ _).mono
    (fun _ h => ⟨fun c => ⟨(h.1 c 0).trans (Cert.Gather.final_x m c), (h.1 c 1).trans (Cert.Gather.final_w m c)⟩, h.2⟩)
    (Cert.Gather.run_main m g)

/-- The kernel as printed, on floats as they are. -/
theorem frame_kernel : Cert.quiescent_Kernel := by
  intro m g _
  rw [tables_eq]
  exact runs_and_keeps (F := Bits) m g

/-- The same over the extended reals. -/
theorem frame_ideal : Cert.quiescent_KernelIdeal := fun m g _ => runs_and_keeps (F := Ideal) m g

/-- The reference runs to its end and keeps its arguments; it has no semaphores. -/
theorem frame_reference : Cert.quiescent_ReferenceIdeal := fun m g _ =>
  (θ_run _ _ _).mono
    (fun r h => ⟨fun c => (h c).2, sem_eq_zero_of_no_sems (by decide) r.2⟩)
    (Cert.ReferenceIdeal.Value.run m g)

/-- Every device's result is its block of columns of the reference's product. -/
theorem same_product : Cert.algebraic_KernelIdeal_ReferenceIdeal := fun m g m' g' _ hagree =>
  ⟨Cert.Gather.whole_product (m' ((0 : Dev Cert.ReferenceIdeal.nD).tc.loc Cert.ReferenceIdeal.main_arg0))
      (m' ((0 : Dev Cert.ReferenceIdeal.nD).tc.loc Cert.ReferenceIdeal.main_arg1)),
    (θ_run _ _ _).mono
      (fun _ h c => ⟨((h.1 c 2).trans (Cert.Gather.final_out m c)).trans
          (Cert.Gather.result_eq m _ _ (fun d => (hagree d).1) (fun d => (hagree d).2) c),
        (h.1 c 0).trans (Cert.Gather.final_x m c), (h.1 c 1).trans (Cert.Gather.final_w m c)⟩)
      (Cert.Gather.run_main (F := Ideal) m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, trivial, same_product⟩

end Cert.Proof

end
